-- ==== Defs.lean ====
def Pre_Kernel [hPre_swapped_Kernel : Cert.Pre_swapped_Kernel.Facts] (m : (ℓ : Loc Cert.Kernel.nD Cert.Kernel.τ Cert.Kernel.sig) → Buf (Elt Bits) ℓ) : Prop :=
  ∀ c : Dev Cert.Kernel.nD,
    (Cert.Pre_swapped_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_kept_Kernel [hPre_kept_Kernel : Cert.Pre_kept_Kernel.Facts] (m : (ℓ : Loc Cert.Kernel.nD Cert.Kernel.τ Cert.Kernel.sig) → Buf (Elt Bits) ℓ) : Prop :=
  ∀ c : Dev Cert.Kernel.nD,
    (Cert.Pre_kept_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_swapped_Kernel : Cert.Pre_swapped_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_swapped_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_kept_Kernel [hPre_kept_Kernel : Cert.Pre_kept_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_kept_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_swapped_ReferenceIdeal [hPre_swapped_ReferenceIdeal : Cert.Pre_swapped_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_swapped_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_kept_ReferenceIdeal [hPre_kept_ReferenceIdeal : Cert.Pre_kept_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_kept_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] [hPre_swapped_Kernel : Cert.Pre_swapped_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_kept_Kernel [hKernel : Cert.Kernel.Facts] [hPre_kept_Kernel : Cert.Pre_kept_Kernel.Facts] : Prop :=
  ∀ (m : (ℓ : Loc Cert.Kernel.nD Cert.Kernel.τ Cert.Kernel.sig) → Buf (Elt Bits) ℓ) (g : Dev Cert.Kernel.nD → PrngReg), Pre_Kernel_kept_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_swapped_Kernel : Cert.Pre_swapped_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_kept_Kernel [hKernelIdeal : Cert.KernelIdeal.Facts] [hPre_kept_Kernel : Cert.Pre_kept_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_kept_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_swapped_ReferenceIdeal [hReferenceIdeal : Cert.ReferenceIdeal.Facts] [hPre_swapped_ReferenceIdeal : Cert.Pre_swapped_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_swapped_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_kept_ReferenceIdeal [hReferenceIdeal : Cert.ReferenceIdeal.Facts] [hPre_kept_ReferenceIdeal : Cert.Pre_kept_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_kept_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_swapped_Kernel : Cert.Pre_swapped_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨3, ![1, 2048, 1024]⟩ ⟨3, ![2, 2048, 1024]⟩ (Layout.meshBlock [2, 2, 2] ![[1], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 2048, 1024]⟩ ⟨3, ![2, 2048, 1024]⟩ (Layout.meshBlock [2, 2, 2] ![[1], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v27) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_kept_Kernel [hKernelIdeal : Cert.KernelIdeal.Facts] [hReferenceIdeal : Cert.ReferenceIdeal.Facts] [hPre_kept_Kernel : Cert.Pre_kept_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_kept_Kernel m →
    (∀ c : Dev Cert.KernelIdeal.nD,
      m ((c.tc : Thread Cert.KernelIdeal.nD Cert.KernelIdeal.τ).loc Cert.KernelIdeal.main_arg0) = Layout.blockN ⟨3, ![1, 2048, 1024]⟩ ⟨3, ![2, 2048, 1024]⟩ (Layout.meshBlock [2, 2, 2] ![[1], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 2048, 1024]⟩ ⟨3, ![2, 2048, 1024]⟩ (Layout.meshBlock [2, 2, 2] ![[1], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v27) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_swapped_Kernel : Cert.Pre_swapped_Kernel.Facts) (hPre_kept_Kernel : Cert.Pre_kept_Kernel.Facts) (hPre_swapped_ReferenceIdeal : Cert.Pre_swapped_ReferenceIdeal.Facts) (hPre_kept_ReferenceIdeal : Cert.Pre_kept_ReferenceIdeal.Facts),
    quiescent_Kernel (hKernel := hKernel) (hPre_swapped_Kernel := hPre_swapped_Kernel)
    ∧ quiescent_Kernel_pre_kept_Kernel (hKernel := hKernel) (hPre_kept_Kernel := hPre_kept_Kernel)
    ∧ quiescent_KernelIdeal (hKernelIdeal := hKernelIdeal) (hPre_swapped_Kernel := hPre_swapped_Kernel)
    ∧ quiescent_KernelIdeal_pre_kept_Kernel (hKernelIdeal := hKernelIdeal) (hPre_kept_Kernel := hPre_kept_Kernel)
    ∧ quiescent_ReferenceIdeal (hReferenceIdeal := hReferenceIdeal)
    ∧ quiescent_ReferenceIdeal_pre_swapped_ReferenceIdeal (hReferenceIdeal := hReferenceIdeal) (hPre_swapped_ReferenceIdeal := hPre_swapped_ReferenceIdeal)
    ∧ quiescent_ReferenceIdeal_pre_kept_ReferenceIdeal (hReferenceIdeal := hReferenceIdeal) (hPre_kept_ReferenceIdeal := hPre_kept_ReferenceIdeal)
    ∧ preserves_Kernel_KernelIdeal
    ∧ algebraic_KernelIdeal_ReferenceIdeal (hKernelIdeal := hKernelIdeal) (hReferenceIdeal := hReferenceIdeal) (hPre_swapped_Kernel := hPre_swapped_Kernel)
    ∧ algebraic_KernelIdeal_ReferenceIdeal_pre_kept_Kernel (hKernelIdeal := hKernelIdeal) (hReferenceIdeal := hReferenceIdeal) (hPre_kept_Kernel := hPre_kept_Kernel)
-- ==== Pre_kept_Kernel.lean ====
abbrev S1x2048x1024 : Shape := ⟨3, ![1, 2048, 1024]⟩
abbrev S2 : Shape := ⟨1, ![2]⟩
abbrev S1 : Shape := ⟨1, ![1]⟩
abbrev S_ : Shape := ⟨0, ![]⟩

class Facts : Prop where
  slices_S2_S1_0 : S2.Slices ![0] S1
  shapeCasts_S1_S_ : S1.ShapeCasts S_
  slices_S2_S1_1 : S2.Slices ![1] S1

variable [Facts]

def fn {F : FTy → Type} [FloatOps F] (main_arg0 : FVec F S1x2048x1024 .f32) (main_arg1 : IVec S2 32) : IVec S_ 1 :=
  let main_v0 : IVec S1 32 := (extractStridedSlice S1 ![0] · slices_S2_S1_0) main_arg1
  let main_v1 : IVec S_ 32 := shapeCast S_ main_v0 shapeCasts_S1_S_
  let main_c : IVec S_ 32 := constantI S_ 32 0#32
  let main_v2 : IVec S_ 1 := cmpi .eq main_v1 main_c
  let main_v3 : IVec S1 32 := (extractStridedSlice S1 ![1] · slices_S2_S1_1) main_arg1
  let main_v4 : IVec S_ 32 := shapeCast S_ main_v3 shapeCasts_S1_S_
  let main_c_0 : IVec S_ 32 := constantI S_ 32 1#32
  let main_v5 : IVec S_ 1 := cmpi .eq main_v4 main_c_0
  let main_v6 : IVec S_ 1 := andi main_v2 main_v5
  main_v6
-- ==== Pre_kept_ReferenceIdeal.lean ====
abbrev S2x2048x1024 : Shape := ⟨3, ![2, 2048, 1024]⟩
abbrev S2 : Shape := ⟨1, ![2]⟩
abbrev S1 : Shape := ⟨1, ![1]⟩
abbrev S_ : Shape := ⟨0, ![]⟩

class Facts : Prop where
  slices_S2_S1_0 : S2.Slices ![0] S1
  shapeCasts_S1_S_ : S1.ShapeCasts S_
  slices_S2_S1_1 : S2.Slices ![1] S1

variable [Facts]

def fn {F : FTy → Type} [FloatOps F] (main_arg0 : FVec F S2x2048x1024 .f32) (main_arg1 : IVec S2 32) : IVec S_ 1 :=
  let main_v0 : IVec S1 32 := (extractStridedSlice S1 ![0] · slices_S2_S1_0) main_arg1
  let main_v1 : IVec S_ 32 := shapeCast S_ main_v0 shapeCasts_S1_S_
  let main_c : IVec S_ 32 := constantI S_ 32 0#32
  let main_v2 : IVec S_ 1 := cmpi .eq main_v1 main_c
  let main_v3 : IVec S1 32 := (extractStridedSlice S1 ![1] · slices_S2_S1_1) main_arg1
  let main_v4 : IVec S_ 32 := shapeCast S_ main_v3 shapeCasts_S1_S_
  let main_c_0 : IVec S_ 32 := constantI S_ 32 1#32
  let main_v5 : IVec S_ 1 := cmpi .eq main_v4 main_c_0
  let main_v6 : IVec S_ 1 := andi main_v2 main_v5
  main_v6
-- ==== Pre_swapped_Kernel.lean ====
abbrev S1x2048x1024 : Shape := ⟨3, ![1, 2048, 1024]⟩
abbrev S2 : Shape := ⟨1, ![2]⟩
abbrev S1 : Shape := ⟨1, ![1]⟩
abbrev S_ : Shape := ⟨0, ![]⟩

class Facts : Prop where
  slices_S2_S1_0 : S2.Slices ![0] S1
  shapeCasts_S1_S_ : S1.ShapeCasts S_
  slices_S2_S1_1 : S2.Slices ![1] S1

variable [Facts]

def fn {F : FTy → Type} [FloatOps F] (main_arg0 : FVec F S1x2048x1024 .f32) (main_arg1 : IVec S2 32) : IVec S_ 1 :=
  let main_v0 : IVec S1 32 := (extractStridedSlice S1 ![0] · slices_S2_S1_0) main_arg1
  let main_v1 : IVec S_ 32 := shapeCast S_ main_v0 shapeCasts_S1_S_
  let main_c : IVec S_ 32 := constantI S_ 32 1#32
  let main_v2 : IVec S_ 1 := cmpi .eq main_v1 main_c
  let main_v3 : IVec S1 32 := (extractStridedSlice S1 ![1] · slices_S2_S1_1) main_arg1
  let main_v4 : IVec S_ 32 := shapeCast S_ main_v3 shapeCasts_S1_S_
  let main_c_0 : IVec S_ 32 := constantI S_ 32 0#32
  let main_v5 : IVec S_ 1 := cmpi .eq main_v4 main_c_0
  let main_v6 : IVec S_ 1 := andi main_v2 main_v5
  main_v6
-- ==== Pre_swapped_ReferenceIdeal.lean ====
abbrev S2x2048x1024 : Shape := ⟨3, ![2, 2048, 1024]⟩
abbrev S2 : Shape := ⟨1, ![2]⟩
abbrev S1 : Shape := ⟨1, ![1]⟩
abbrev S_ : Shape := ⟨0, ![]⟩

class Facts : Prop where
  slices_S2_S1_0 : S2.Slices ![0] S1
  shapeCasts_S1_S_ : S1.ShapeCasts S_
  slices_S2_S1_1 : S2.Slices ![1] S1

variable [Facts]

def fn {F : FTy → Type} [FloatOps F] (main_arg0 : FVec F S2x2048x1024 .f32) (main_arg1 : IVec S2 32) : IVec S_ 1 :=
  let main_v0 : IVec S1 32 := (extractStridedSlice S1 ![0] · slices_S2_S1_0) main_arg1
  let main_v1 : IVec S_ 32 := shapeCast S_ main_v0 shapeCasts_S1_S_
  let main_c : IVec S_ 32 := constantI S_ 32 1#32
  let main_v2 : IVec S_ 1 := cmpi .eq main_v1 main_c
  let main_v3 : IVec S1 32 := (extractStridedSlice S1 ![1] · slices_S2_S1_1) main_arg1
  let main_v4 : IVec S_ 32 := shapeCast S_ main_v3 shapeCasts_S1_S_
  let main_c_0 : IVec S_ 32 := constantI S_ 32 0#32
  let main_v5 : IVec S_ 1 := cmpi .eq main_v4 main_c_0
  let main_v6 : IVec S_ 1 := andi main_v2 main_v5
  main_v6
-- ==== Kernel.lean ====
abbrev S1x2048x1024 : Shape := ⟨3, ![1, 2048, 1024]⟩
abbrev S2 : Shape := ⟨1, ![2]⟩
abbrev S2x128x1024 : Shape := ⟨3, ![2, 128, 1024]⟩
abbrev S16x128x1024 : Shape := ⟨3, ![16, 128, 1024]⟩
abbrev S16x128 : Shape := ⟨2, ![16, 128]⟩
abbrev S16 : Shape := ⟨1, ![16]⟩
abbrev S1 : Shape := ⟨1, ![1]⟩
abbrev S_ : Shape := ⟨0, ![]⟩
abbrev S1x128x1024 : Shape := ⟨3, ![1, 128, 1024]⟩
abbrev S128x1024 : Shape := ⟨2, ![128, 1024]⟩
abbrev S128 : Shape := ⟨1, ![128]⟩
abbrev S128x1 : Shape := ⟨2, ![128, 1]⟩
abbrev S1x128 : Shape := ⟨2, ![1, 128]⟩

abbrev nBuf : Space → Nat
  | .hbm => 3
  | .vmem => 6
  | .smem => 1
  | _ => 0

abbrev bufTy : (tb : Table) → Fin (tcTables nBuf tb) → BufTy
  | .hbm, ⟨0, _⟩ => ⟨S1x2048x1024, .f32⟩
  | .hbm, ⟨1, _⟩ => ⟨S2, .i32⟩
  | .hbm, ⟨2, _⟩ => ⟨S1x2048x1024, .bf16⟩
  | .local _ .vmem, ⟨0, _⟩ => ⟨S1x2048x1024, .bf16⟩
  | .local _ .vmem, ⟨1, _⟩ => ⟨S2x128x1024, .f32⟩
  | .local _ .vmem, ⟨2, _⟩ => ⟨S16x128x1024, .i8⟩
  | .local _ .vmem, ⟨3, _⟩ => ⟨S16x128, .f32⟩
  | .local _ .vmem, ⟨4, _⟩ => ⟨S16x128x1024, .i8⟩
  | .local _ .vmem, ⟨5, _⟩ => ⟨S16x128, .f32⟩
  | .local _ .smem, ⟨0, _⟩ => ⟨S2, .i32⟩
  | _, _ => ⟨S1x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .smem, ⟨0, _⟩ => true
  | _, _ => false

abbrev semScoped : Fin 1 → Bool
  | ⟨0, _⟩ => false
  | _ => false

abbrev dmaSemScoped : Fin 68 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | _ => false

abbrev sig : RefSig :=
  (ofTc nBuf bufTy 1 68 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg1_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_scratch3 : Ref sig .tc := ⟨.vmem, 4, rfl⟩
abbrev cc0_scratch4 : Ref sig .tc := ⟨.vmem, 5, rfl⟩
abbrev cc0_stg0_0 : Ref sig .tc := ⟨.smem, 0, rfl⟩
abbrev cc0_sem0_0 : DmaSem sig := 0
abbrev cc0_sem1_0 : DmaSem sig := 1
abbrev barrier0 : Sem sig := 0

abbrev nD : Nat := 8
abbrev τ : Topo := Topo.v7x

variable {F : FTy → Type} [FloatOps F]

abbrev grid0 : Pipeline.Grid := .none

def k0_off1 (d0 : Dev nD) : Fin 1 → Nat :=
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : Index := Scalar.indexCast v5
  ![v9.toNat]
def k0_dev1 (d0 : Dev nD) : Nat :=
  let c0_i32_12 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_11 : BitVec 32 := 4#32
  let v19 : BitVec 32 := Scalar.muli v2 c4_i32_11
  let v20 : BitVec 32 := Scalar.addi c0_i32_12 v19
  let c1_i32_9 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v18 : BitVec 32 := Scalar.subi c1_i32_9 v5
  let c2_i32_13 : BitVec 32 := 2#32
  let v21 : BitVec 32 := Scalar.muli v18 c2_i32_13
  let v22 : BitVec 32 := Scalar.addi v20 v21
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_14 : BitVec 32 := 1#32
  let v23 : BitVec 32 := Scalar.muli v8 c1_i32_14
  let v24 : BitVec 32 := Scalar.addi v22 v23
  v24.toNat
def k0_dev2 (d0 : Dev nD) (v10 : BitVec 32) : Nat :=
  let c0_i32_44 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_43 : BitVec 32 := 4#32
  let v59 : BitVec 32 := Scalar.muli v2 c4_i32_43
  let v60 : BitVec 32 := Scalar.addi c0_i32_44 v59
  let c2_i32_45 : BitVec 32 := 2#32
  let v61 : BitVec 32 := Scalar.muli v10 c2_i32_45
  let v62 : BitVec 32 := Scalar.addi v60 v61
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_46 : BitVec 32 := 1#32
  let v63 : BitVec 32 := Scalar.muli v8 c1_i32_46
  let v64 : BitVec 32 := Scalar.addi v62 v63
  v64.toNat

def k0_dev3 (d0 : Dev nD) (v10 : BitVec 32) : Nat :=
  let c0_i32_56 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_55 : BitVec 32 := 4#32
  let v73 : BitVec 32 := Scalar.muli v2 c4_i32_55
  let v74 : BitVec 32 := Scalar.addi c0_i32_56 v73
  let c2_i32_57 : BitVec 32 := 2#32
  let v75 : BitVec 32 := Scalar.muli v10 c2_i32_57
  let v76 : BitVec 32 := Scalar.addi v74 v75
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_58 : BitVec 32 := 1#32
  let v77 : BitVec 32 := Scalar.muli v8 c1_i32_58
  let v78 : BitVec 32 := Scalar.addi v76 v77
  v78.toNat
def k0_dev4 (d0 : Dev nD) (v10 : BitVec 32) : Nat :=
  let c0_i32_90 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_89 : BitVec 32 := 4#32
  let v121 : BitVec 32 := Scalar.muli v2 c4_i32_89
  let v122 : BitVec 32 := Scalar.addi c0_i32_90 v121
  let c2_i32_91 : BitVec 32 := 2#32
  let v123 : BitVec 32 := Scalar.muli v10 c2_i32_91
  let v124 : BitVec 32 := Scalar.addi v122 v123
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_92 : BitVec 32 := 1#32
  let v125 : BitVec 32 := Scalar.muli v8 c1_i32_92
  let v126 : BitVec 32 := Scalar.addi v124 v125
  v126.toNat
def k0_dev5 (d0 : Dev nD) (v10 : BitVec 32) : Nat :=
  let c0_i32_102 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_101 : BitVec 32 := 4#32
  let v135 : BitVec 32 := Scalar.muli v2 c4_i32_101
  let v136 : BitVec 32 := Scalar.addi c0_i32_102 v135
  let c2_i32_103 : BitVec 32 := 2#32
  let v137 : BitVec 32 := Scalar.muli v10 c2_i32_103
  let v138 : BitVec 32 := Scalar.addi v136 v137
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_104 : BitVec 32 := 1#32
  let v139 : BitVec 32 := Scalar.muli v8 c1_i32_104
  let v140 : BitVec 32 := Scalar.addi v138 v139
  v140.toNat
def k0_dev6 (d0 : Dev nD) (v10 : BitVec 32) : Nat :=
  let c0_i32_136 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_135 : BitVec 32 := 4#32
  let v183 : BitVec 32 := Scalar.muli v2 c4_i32_135
  let v184 : BitVec 32 := Scalar.addi c0_i32_136 v183
  let c2_i32_137 : BitVec 32 := 2#32
  let v185 : BitVec 32 := Scalar.muli v10 c2_i32_137
  let v186 : BitVec 32 := Scalar.addi v184 v185
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_138 : BitVec 32 := 1#32
  let v187 : BitVec 32 := Scalar.muli v8 c1_i32_138
  let v188 : BitVec 32 := Scalar.addi v186 v187
  v188.toNat
def k0_dev7 (d0 : Dev nD) (v10 : BitVec 32) : Nat :=
  let c0_i32_148 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_147 : BitVec 32 := 4#32
  let v197 : BitVec 32 := Scalar.muli v2 c4_i32_147
  let v198 : BitVec 32 := Scalar.addi c0_i32_148 v197
  let c2_i32_149 : BitVec 32 := 2#32
  let v199 : BitVec 32 := Scalar.muli v10 c2_i32_149
  let v200 : BitVec 32 := Scalar.addi v198 v199
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_150 : BitVec 32 := 1#32
  let v201 : BitVec 32 := Scalar.muli v8 c1_i32_150
  let v202 : BitVec 32 := Scalar.addi v200 v201
  v202.toNat
def k0_dev8 (d0 : Dev nD) (v10 : BitVec 32) : Nat :=
  let c0_i32_181 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_180 : BitVec 32 := 4#32
  let v245 : BitVec 32 := Scalar.muli v2 c4_i32_180
  let v246 : BitVec 32 := Scalar.addi c0_i32_181 v245
  let c2_i32_182 : BitVec 32 := 2#32
  let v247 : BitVec 32 := Scalar.muli v10 c2_i32_182
  let v248 : BitVec 32 := Scalar.addi v246 v247
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_183 : BitVec 32 := 1#32
  let v249 : BitVec 32 := Scalar.muli v8 c1_i32_183
  let v250 : BitVec 32 := Scalar.addi v248 v249
  v250.toNat
def k0_dev9 (d0 : Dev nD) (v10 : BitVec 32) : Nat :=
  let c0_i32_193 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_192 : BitVec 32 := 4#32
  let v259 : BitVec 32 := Scalar.muli v2 c4_i32_192
  let v260 : BitVec 32 := Scalar.addi c0_i32_193 v259
  let c2_i32_194 : BitVec 32 := 2#32
  let v261 : BitVec 32 := Scalar.muli v10 c2_i32_194
  let v262 : BitVec 32 := Scalar.addi v260 v261
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_195 : BitVec 32 := 1#32
  let v263 : BitVec 32 := Scalar.muli v8 c1_i32_195
  let v264 : BitVec 32 := Scalar.addi v262 v263
  v264.toNat
def k0_dev10 (d0 : Dev nD) (v10 : BitVec 32) : Nat :=
  let c0_i32_227 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_226 : BitVec 32 := 4#32
  let v307 : BitVec 32 := Scalar.muli v2 c4_i32_226
  let v308 : BitVec 32 := Scalar.addi c0_i32_227 v307
  let c2_i32_228 : BitVec 32 := 2#32
  let v309 : BitVec 32 := Scalar.muli v10 c2_i32_228
  let v310 : BitVec 32 := Scalar.addi v308 v309
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_229 : BitVec 32 := 1#32
  let v311 : BitVec 32 := Scalar.muli v8 c1_i32_229
  let v312 : BitVec 32 := Scalar.addi v310 v311
  v312.toNat
def k0_dev11 (d0 : Dev nD) (v10 : BitVec 32) : Nat :=
  let c0_i32_239 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_238 : BitVec 32 := 4#32
  let v321 : BitVec 32 := Scalar.muli v2 c4_i32_238
  let v322 : BitVec 32 := Scalar.addi c0_i32_239 v321
  let c2_i32_240 : BitVec 32 := 2#32
  let v323 : BitVec 32 := Scalar.muli v10 c2_i32_240
  let v324 : BitVec 32 := Scalar.addi v322 v323
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_241 : BitVec 32 := 1#32
  let v325 : BitVec 32 := Scalar.muli v8 c1_i32_241
  let v326 : BitVec 32 := Scalar.addi v324 v325
  v326.toNat
def k0_dev12 (d0 : Dev nD) (v10 : BitVec 32) : Nat :=
  let c0_i32_272 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_271 : BitVec 32 := 4#32
  let v369 : BitVec 32 := Scalar.muli v2 c4_i32_271
  let v370 : BitVec 32 := Scalar.addi c0_i32_272 v369
  let c2_i32_273 : BitVec 32 := 2#32
  let v371 : BitVec 32 := Scalar.muli v10 c2_i32_273
  let v372 : BitVec 32 := Scalar.addi v370 v371
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_274 : BitVec 32 := 1#32
  let v373 : BitVec 32 := Scalar.muli v8 c1_i32_274
  let v374 : BitVec 32 := Scalar.addi v372 v373
  v374.toNat
def k0_dev13 (d0 : Dev nD) (v10 : BitVec 32) : Nat :=
  let c0_i32_284 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_283 : BitVec 32 := 4#32
  let v383 : BitVec 32 := Scalar.muli v2 c4_i32_283
  let v384 : BitVec 32 := Scalar.addi c0_i32_284 v383
  let c2_i32_285 : BitVec 32 := 2#32
  let v385 : BitVec 32 := Scalar.muli v10 c2_i32_285
  let v386 : BitVec 32 := Scalar.addi v384 v385
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_286 : BitVec 32 := 1#32
  let v387 : BitVec 32 := Scalar.muli v8 c1_i32_286
  let v388 : BitVec 32 := Scalar.addi v386 v387
  v388.toNat
def k0_dev14 (d0 : Dev nD) (v10 : BitVec 32) : Nat :=
  let c0_i32_317 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_316 : BitVec 32 := 4#32
  let v431 : BitVec 32 := Scalar.muli v2 c4_i32_316
  let v432 : BitVec 32 := Scalar.addi c0_i32_317 v431
  let c2_i32_318 : BitVec 32 := 2#32
  let v433 : BitVec 32 := Scalar.muli v10 c2_i32_318
  let v434 : BitVec 32 := Scalar.addi v432 v433
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_319 : BitVec 32 := 1#32
  let v435 : BitVec 32 := Scalar.muli v8 c1_i32_319
  let v436 : BitVec 32 := Scalar.addi v434 v435
  v436.toNat
def k0_dev15 (d0 : Dev nD) (v10 : BitVec 32) : Nat :=
  let c0_i32_329 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_328 : BitVec 32 := 4#32
  let v445 : BitVec 32 := Scalar.muli v2 c4_i32_328
  let v446 : BitVec 32 := Scalar.addi c0_i32_329 v445
  let c2_i32_330 : BitVec 32 := 2#32
  let v447 : BitVec 32 := Scalar.muli v10 c2_i32_330
  let v448 : BitVec 32 := Scalar.addi v446 v447
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_331 : BitVec 32 := 1#32
  let v449 : BitVec 32 := Scalar.muli v8 c1_i32_331
  let v450 : BitVec 32 := Scalar.addi v448 v449
  v450.toNat
def k0_dev16 (d0 : Dev nD) (v10 : BitVec 32) : Nat :=
  let c0_i32_362 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_361 : BitVec 32 := 4#32
  let v493 : BitVec 32 := Scalar.muli v2 c4_i32_361
  let v494 : BitVec 32 := Scalar.addi c0_i32_362 v493
  let c2_i32_363 : BitVec 32 := 2#32
  let v495 : BitVec 32 := Scalar.muli v10 c2_i32_363
  let v496 : BitVec 32 := Scalar.addi v494 v495
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_364 : BitVec 32 := 1#32
  let v497 : BitVec 32 := Scalar.muli v8 c1_i32_364
  let v498 : BitVec 32 := Scalar.addi v496 v497
  v498.toNat
def k0_dev17 (d0 : Dev nD) (v10 : BitVec 32) : Nat :=
  let c0_i32_374 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_373 : BitVec 32 := 4#32
  let v507 : BitVec 32 := Scalar.muli v2 c4_i32_373
  let v508 : BitVec 32 := Scalar.addi c0_i32_374 v507
  let c2_i32_375 : BitVec 32 := 2#32
  let v509 : BitVec 32 := Scalar.muli v10 c2_i32_375
  let v510 : BitVec 32 := Scalar.addi v508 v509
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_376 : BitVec 32 := 1#32
  let v511 : BitVec 32 := Scalar.muli v8 c1_i32_376
  let v512 : BitVec 32 := Scalar.addi v510 v511
  v512.toNat
def k0_dev18 (d0 : Dev nD) (v10 : BitVec 32) : Nat :=
  let c0_i32_407 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_406 : BitVec 32 := 4#32
  let v555 : BitVec 32 := Scalar.muli v2 c4_i32_406
  let v556 : BitVec 32 := Scalar.addi c0_i32_407 v555
  let c2_i32_408 : BitVec 32 := 2#32
  let v557 : BitVec 32 := Scalar.muli v10 c2_i32_408
  let v558 : BitVec 32 := Scalar.addi v556 v557
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_409 : BitVec 32 := 1#32
  let v559 : BitVec 32 := Scalar.muli v8 c1_i32_409
  let v560 : BitVec 32 := Scalar.addi v558 v559
  v560.toNat
def k0_dev19 (d0 : Dev nD) (v10 : BitVec 32) : Nat :=
  let c0_i32_419 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_418 : BitVec 32 := 4#32
  let v569 : BitVec 32 := Scalar.muli v2 c4_i32_418
  let v570 : BitVec 32 := Scalar.addi c0_i32_419 v569
  let c2_i32_420 : BitVec 32 := 2#32
  let v571 : BitVec 32 := Scalar.muli v10 c2_i32_420
  let v572 : BitVec 32 := Scalar.addi v570 v571
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_421 : BitVec 32 := 1#32
  let v573 : BitVec 32 := Scalar.muli v8 c1_i32_421
  let v574 : BitVec 32 := Scalar.addi v572 v573
  v574.toNat
def k0_dev20 (d0 : Dev nD) (v10 : BitVec 32) : Nat :=
  let c0_i32_452 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_451 : BitVec 32 := 4#32
  let v617 : BitVec 32 := Scalar.muli v2 c4_i32_451
  let v618 : BitVec 32 := Scalar.addi c0_i32_452 v617
  let c2_i32_453 : BitVec 32 := 2#32
  let v619 : BitVec 32 := Scalar.muli v10 c2_i32_453
  let v620 : BitVec 32 := Scalar.addi v618 v619
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_454 : BitVec 32 := 1#32
  let v621 : BitVec 32 := Scalar.muli v8 c1_i32_454
  let v622 : BitVec 32 := Scalar.addi v620 v621
  v622.toNat
def k0_dev21 (d0 : Dev nD) (v10 : BitVec 32) : Nat :=
  let c0_i32_464 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_463 : BitVec 32 := 4#32
  let v631 : BitVec 32 := Scalar.muli v2 c4_i32_463
  let v632 : BitVec 32 := Scalar.addi c0_i32_464 v631
  let c2_i32_465 : BitVec 32 := 2#32
  let v633 : BitVec 32 := Scalar.muli v10 c2_i32_465
  let v634 : BitVec 32 := Scalar.addi v632 v633
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_466 : BitVec 32 := 1#32
  let v635 : BitVec 32 := Scalar.muli v8 c1_i32_466
  let v636 : BitVec 32 := Scalar.addi v634 v635
  v636.toNat
def k0_dev22 (d0 : Dev nD) (v10 : BitVec 32) : Nat :=
  let c0_i32_497 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_496 : BitVec 32 := 4#32
  let v679 : BitVec 32 := Scalar.muli v2 c4_i32_496
  let v680 : BitVec 32 := Scalar.addi c0_i32_497 v679
  let c2_i32_498 : BitVec 32 := 2#32
  let v681 : BitVec 32 := Scalar.muli v10 c2_i32_498
  let v682 : BitVec 32 := Scalar.addi v680 v681
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_499 : BitVec 32 := 1#32
  let v683 : BitVec 32 := Scalar.muli v8 c1_i32_499
  let v684 : BitVec 32 := Scalar.addi v682 v683
  v684.toNat
def k0_dev23 (d0 : Dev nD) (v10 : BitVec 32) : Nat :=
  let c0_i32_509 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_508 : BitVec 32 := 4#32
  let v693 : BitVec 32 := Scalar.muli v2 c4_i32_508
  let v694 : BitVec 32 := Scalar.addi c0_i32_509 v693
  let c2_i32_510 : BitVec 32 := 2#32
  let v695 : BitVec 32 := Scalar.muli v10 c2_i32_510
  let v696 : BitVec 32 := Scalar.addi v694 v695
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_511 : BitVec 32 := 1#32
  let v697 : BitVec 32 := Scalar.muli v8 c1_i32_511
  let v698 : BitVec 32 := Scalar.addi v696 v697
  v698.toNat
def k0_dev24 (d0 : Dev nD) (v10 : BitVec 32) : Nat :=
  let c0_i32_542 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_541 : BitVec 32 := 4#32
  let v741 : BitVec 32 := Scalar.muli v2 c4_i32_541
  let v742 : BitVec 32 := Scalar.addi c0_i32_542 v741
  let c2_i32_543 : BitVec 32 := 2#32
  let v743 : BitVec 32 := Scalar.muli v10 c2_i32_543
  let v744 : BitVec 32 := Scalar.addi v742 v743
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_544 : BitVec 32 := 1#32
  let v745 : BitVec 32 := Scalar.muli v8 c1_i32_544
  let v746 : BitVec 32 := Scalar.addi v744 v745
  v746.toNat
def k0_dev25 (d0 : Dev nD) (v10 : BitVec 32) : Nat :=
  let c0_i32_554 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_553 : BitVec 32 := 4#32
  let v755 : BitVec 32 := Scalar.muli v2 c4_i32_553
  let v756 : BitVec 32 := Scalar.addi c0_i32_554 v755
  let c2_i32_555 : BitVec 32 := 2#32
  let v757 : BitVec 32 := Scalar.muli v10 c2_i32_555
  let v758 : BitVec 32 := Scalar.addi v756 v757
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_556 : BitVec 32 := 1#32
  let v759 : BitVec 32 := Scalar.muli v8 c1_i32_556
  let v760 : BitVec 32 := Scalar.addi v758 v759
  v760.toNat
def k0_dev26 (d0 : Dev nD) (v10 : BitVec 32) : Nat :=
  let c0_i32_587 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_586 : BitVec 32 := 4#32
  let v803 : BitVec 32 := Scalar.muli v2 c4_i32_586
  let v804 : BitVec 32 := Scalar.addi c0_i32_587 v803
  let c2_i32_588 : BitVec 32 := 2#32
  let v805 : BitVec 32 := Scalar.muli v10 c2_i32_588
  let v806 : BitVec 32 := Scalar.addi v804 v805
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_589 : BitVec 32 := 1#32
  let v807 : BitVec 32 := Scalar.muli v8 c1_i32_589
  let v808 : BitVec 32 := Scalar.addi v806 v807
  v808.toNat
def k0_dev27 (d0 : Dev nD) (v10 : BitVec 32) : Nat :=
  let c0_i32_599 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_598 : BitVec 32 := 4#32
  let v817 : BitVec 32 := Scalar.muli v2 c4_i32_598
  let v818 : BitVec 32 := Scalar.addi c0_i32_599 v817
  let c2_i32_600 : BitVec 32 := 2#32
  let v819 : BitVec 32 := Scalar.muli v10 c2_i32_600
  let v820 : BitVec 32 := Scalar.addi v818 v819
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_601 : BitVec 32 := 1#32
  let v821 : BitVec 32 := Scalar.muli v8 c1_i32_601
  let v822 : BitVec 32 := Scalar.addi v820 v821
  v822.toNat
def k0_dev28 (d0 : Dev nD) (v10 : BitVec 32) : Nat :=
  let c0_i32_632 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_631 : BitVec 32 := 4#32
  let v865 : BitVec 32 := Scalar.muli v2 c4_i32_631
  let v866 : BitVec 32 := Scalar.addi c0_i32_632 v865
  let c2_i32_633 : BitVec 32 := 2#32
  let v867 : BitVec 32 := Scalar.muli v10 c2_i32_633
  let v868 : BitVec 32 := Scalar.addi v866 v867
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_634 : BitVec 32 := 1#32
  let v869 : BitVec 32 := Scalar.muli v8 c1_i32_634
  let v870 : BitVec 32 := Scalar.addi v868 v869
  v870.toNat
def k0_dev29 (d0 : Dev nD) (v10 : BitVec 32) : Nat :=
  let c0_i32_644 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_643 : BitVec 32 := 4#32
  let v879 : BitVec 32 := Scalar.muli v2 c4_i32_643
  let v880 : BitVec 32 := Scalar.addi c0_i32_644 v879
  let c2_i32_645 : BitVec 32 := 2#32
  let v881 : BitVec 32 := Scalar.muli v10 c2_i32_645
  let v882 : BitVec 32 := Scalar.addi v880 v881
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_646 : BitVec 32 := 1#32
  let v883 : BitVec 32 := Scalar.muli v8 c1_i32_646
  let v884 : BitVec 32 := Scalar.addi v882 v883
  v884.toNat
def k0_dev30 (d0 : Dev nD) (v10 : BitVec 32) : Nat :=
  let c0_i32_677 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_676 : BitVec 32 := 4#32
  let v927 : BitVec 32 := Scalar.muli v2 c4_i32_676
  let v928 : BitVec 32 := Scalar.addi c0_i32_677 v927
  let c2_i32_678 : BitVec 32 := 2#32
  let v929 : BitVec 32 := Scalar.muli v10 c2_i32_678
  let v930 : BitVec 32 := Scalar.addi v928 v929
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_679 : BitVec 32 := 1#32
  let v931 : BitVec 32 := Scalar.muli v8 c1_i32_679
  let v932 : BitVec 32 := Scalar.addi v930 v931
  v932.toNat
def k0_dev31 (d0 : Dev nD) (v10 : BitVec 32) : Nat :=
  let c0_i32_689 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_688 : BitVec 32 := 4#32
  let v941 : BitVec 32 := Scalar.muli v2 c4_i32_688
  let v942 : BitVec 32 := Scalar.addi c0_i32_689 v941
  let c2_i32_690 : BitVec 32 := 2#32
  let v943 : BitVec 32 := Scalar.muli v10 c2_i32_690
  let v944 : BitVec 32 := Scalar.addi v942 v943
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_691 : BitVec 32 := 1#32
  let v945 : BitVec 32 := Scalar.muli v8 c1_i32_691
  let v946 : BitVec 32 := Scalar.addi v944 v945
  v946.toNat
def k0_dev32 (d0 : Dev nD) (v10 : BitVec 32) : Nat :=
  let c0_i32_716 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_715 : BitVec 32 := 4#32
  let v983 : BitVec 32 := Scalar.muli v2 c4_i32_715
  let v984 : BitVec 32 := Scalar.addi c0_i32_716 v983
  let c2_i32_717 : BitVec 32 := 2#32
  let v985 : BitVec 32 := Scalar.muli v10 c2_i32_717
  let v986 : BitVec 32 := Scalar.addi v984 v985
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_718 : BitVec 32 := 1#32
  let v987 : BitVec 32 := Scalar.muli v8 c1_i32_718
  let v988 : BitVec 32 := Scalar.addi v986 v987
  v988.toNat
def k0_dev33 (d0 : Dev nD) (v10 : BitVec 32) : Nat :=
  let c0_i32_728 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_727 : BitVec 32 := 4#32
  let v997 : BitVec 32 := Scalar.muli v2 c4_i32_727
  let v998 : BitVec 32 := Scalar.addi c0_i32_728 v997
  let c2_i32_729 : BitVec 32 := 2#32
  let v999 : BitVec 32 := Scalar.muli v10 c2_i32_729
  let v1000 : BitVec 32 := Scalar.addi v998 v999
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_730 : BitVec 32 := 1#32
  let v1001 : BitVec 32 := Scalar.muli v8 c1_i32_730
  let v1002 : BitVec 32 := Scalar.addi v1000 v1001
  v1002.toNat

def k0_chk1 (d0 : Dev nD) (v10 : BitVec 32) : Prop :=
  ((k0_dev2 d0 v10) < nD) ∧
  ((k0_dev3 d0 v10) < nD) ∧
  ((k0_dev4 d0 v10) < nD) ∧
  ((k0_dev5 d0 v10) < nD) ∧
  ((k0_dev6 d0 v10) < nD) ∧
  ((k0_dev7 d0 v10) < nD) ∧
  ((k0_dev8 d0 v10) < nD) ∧
  ((k0_dev9 d0 v10) < nD) ∧
  ((k0_dev10 d0 v10) < nD) ∧
  ((k0_dev11 d0 v10) < nD) ∧
  ((k0_dev12 d0 v10) < nD) ∧
  ((k0_dev13 d0 v10) < nD) ∧
  ((k0_dev14 d0 v10) < nD) ∧
  ((k0_dev15 d0 v10) < nD) ∧
  ((k0_dev16 d0 v10) < nD) ∧
  ((k0_dev17 d0 v10) < nD) ∧
  ((k0_dev18 d0 v10) < nD) ∧
  ((k0_dev19 d0 v10) < nD) ∧
  ((k0_dev20 d0 v10) < nD) ∧
  ((k0_dev21 d0 v10) < nD) ∧
  ((k0_dev22 d0 v10) < nD) ∧
  ((k0_dev23 d0 v10) < nD) ∧
  ((k0_dev24 d0 v10) < nD) ∧
  ((k0_dev25 d0 v10) < nD) ∧
  ((k0_dev26 d0 v10) < nD) ∧
  ((k0_dev27 d0 v10) < nD) ∧
  ((k0_dev28 d0 v10) < nD) ∧
  ((k0_dev29 d0 v10) < nD) ∧
  ((k0_dev30 d0 v10) < nD) ∧
  ((k0_dev31 d0 v10) < nD) ∧
  ((k0_dev32 d0 v10) < nD) ∧
  ((k0_dev33 d0 v10) < nD)
theorem k0_dev2_lt : ∀ (d0 : Dev nD) (v10 : BitVec 32) (k0_hw1 : k0_chk1 d0 v10), (k0_dev2 d0 v10) < nD := fun d0 v10 k0_hw1 => k0_hw1.1
theorem k0_dev3_lt : ∀ (d0 : Dev nD) (v10 : BitVec 32) (k0_hw1 : k0_chk1 d0 v10), (k0_dev3 d0 v10) < nD := fun d0 v10 k0_hw1 => k0_hw1.2.1
theorem k0_dev4_lt : ∀ (d0 : Dev nD) (v10 : BitVec 32) (k0_hw1 : k0_chk1 d0 v10), (k0_dev4 d0 v10) < nD := fun d0 v10 k0_hw1 => k0_hw1.2.2.1
theorem k0_dev5_lt : ∀ (d0 : Dev nD) (v10 : BitVec 32) (k0_hw1 : k0_chk1 d0 v10), (k0_dev5 d0 v10) < nD := fun d0 v10 k0_hw1 => k0_hw1.2.2.2.1
theorem k0_dev6_lt : ∀ (d0 : Dev nD) (v10 : BitVec 32) (k0_hw1 : k0_chk1 d0 v10), (k0_dev6 d0 v10) < nD := fun d0 v10 k0_hw1 => k0_hw1.2.2.2.2.1
theorem k0_dev7_lt : ∀ (d0 : Dev nD) (v10 : BitVec 32) (k0_hw1 : k0_chk1 d0 v10), (k0_dev7 d0 v10) < nD := fun d0 v10 k0_hw1 => k0_hw1.2.2.2.2.2.1
theorem k0_dev8_lt : ∀ (d0 : Dev nD) (v10 : BitVec 32) (k0_hw1 : k0_chk1 d0 v10), (k0_dev8 d0 v10) < nD := fun d0 v10 k0_hw1 => k0_hw1.2.2.2.2.2.2.1
theorem k0_dev9_lt : ∀ (d0 : Dev nD) (v10 : BitVec 32) (k0_hw1 : k0_chk1 d0 v10), (k0_dev9 d0 v10) < nD := fun d0 v10 k0_hw1 => k0_hw1.2.2.2.2.2.2.2.1
theorem k0_dev10_lt : ∀ (d0 : Dev nD) (v10 : BitVec 32) (k0_hw1 : k0_chk1 d0 v10), (k0_dev10 d0 v10) < nD := fun d0 v10 k0_hw1 => k0_hw1.2.2.2.2.2.2.2.2.1
theorem k0_dev11_lt : ∀ (d0 : Dev nD) (v10 : BitVec 32) (k0_hw1 : k0_chk1 d0 v10), (k0_dev11 d0 v10) < nD := fun d0 v10 k0_hw1 => k0_hw1.2.2.2.2.2.2.2.2.2.1
theorem k0_dev12_lt : ∀ (d0 : Dev nD) (v10 : BitVec 32) (k0_hw1 : k0_chk1 d0 v10), (k0_dev12 d0 v10) < nD := fun d0 v10 k0_hw1 => k0_hw1.2.2.2.2.2.2.2.2.2.2.1
theorem k0_dev13_lt : ∀ (d0 : Dev nD) (v10 : BitVec 32) (k0_hw1 : k0_chk1 d0 v10), (k0_dev13 d0 v10) < nD := fun d0 v10 k0_hw1 => k0_hw1.2.2.2.2.2.2.2.2.2.2.2.1
theorem k0_dev14_lt : ∀ (d0 : Dev nD) (v10 : BitVec 32) (k0_hw1 : k0_chk1 d0 v10), (k0_dev14 d0 v10) < nD := fun d0 v10 k0_hw1 => k0_hw1.2.2.2.2.2.2.2.2.2.2.2.2.1
theorem k0_dev15_lt : ∀ (d0 : Dev nD) (v10 : BitVec 32) (k0_hw1 : k0_chk1 d0 v10), (k0_dev15 d0 v10) < nD := fun d0 v10 k0_hw1 => k0_hw1.2.2.2.2.2.2.2.2.2.2.2.2.2.1
theorem k0_dev16_lt : ∀ (d0 : Dev nD) (v10 : BitVec 32) (k0_hw1 : k0_chk1 d0 v10), (k0_dev16 d0 v10) < nD := fun d0 v10 k0_hw1 => k0_hw1.2.2.2.2.2.2.2.2.2.2.2.2.2.2.1
theorem k0_dev17_lt : ∀ (d0 : Dev nD) (v10 : BitVec 32) (k0_hw1 : k0_chk1 d0 v10), (k0_dev17 d0 v10) < nD := fun d0 v10 k0_hw1 => k0_hw1.2.2.2.2.2.2.2.2.2.2.2.2.2.2.2.1
theorem k0_dev18_lt : ∀ (d0 : Dev nD) (v10 : BitVec 32) (k0_hw1 : k0_chk1 d0 v10), (k0_dev18 d0 v10) < nD := fun d0 v10 k0_hw1 => k0_hw1.2.2.2.2.2.2.2.2.2.2.2.2.2.2.2.2.1
theorem k0_dev19_lt : ∀ (d0 : Dev nD) (v10 : BitVec 32) (k0_hw1 : k0_chk1 d0 v10), (k0_dev19 d0 v10) < nD := fun d0 v10 k0_hw1 => k0_hw1.2.2.2.2.2.2.2.2.2.2.2.2.2.2.2.2.2.1
theorem k0_dev20_lt : ∀ (d0 : Dev nD) (v10 : BitVec 32) (k0_hw1 : k0_chk1 d0 v10), (k0_dev20 d0 v10) < nD := fun d0 v10 k0_hw1 => k0_hw1.2.2.2.2.2.2.2.2.2.2.2.2.2.2.2.2.2.2.1
theorem k0_dev21_lt : ∀ (d0 : Dev nD) (v10 : BitVec 32) (k0_hw1 : k0_chk1 d0 v10), (k0_dev21 d0 v10) < nD := fun d0 v10 k0_hw1 => k0_hw1.2.2.2.2.2.2.2.2.2.2.2.2.2.2.2.2.2.2.2.1
theorem k0_dev22_lt : ∀ (d0 : Dev nD) (v10 : BitVec 32) (k0_hw1 : k0_chk1 d0 v10), (k0_dev22 d0 v10) < nD := fun d0 v10 k0_hw1 => k0_hw1.2.2.2.2.2.2.2.2.2.2.2.2.2.2.2.2.2.2.2.2.1
theorem k0_dev23_lt : ∀ (d0 : Dev nD) (v10 : BitVec 32) (k0_hw1 : k0_chk1 d0 v10), (k0_dev23 d0 v10) < nD := fun d0 v10 k0_hw1 => k0_hw1.2.2.2.2.2.2.2.2.2.2.2.2.2.2.2.2.2.2.2.2.2.1
theorem k0_dev24_lt : ∀ (d0 : Dev nD) (v10 : BitVec 32) (k0_hw1 : k0_chk1 d0 v10), (k0_dev24 d0 v10) < nD := fun d0 v10 k0_hw1 => k0_hw1.2.2.2.2.2.2.2.2.2.2.2.2.2.2.2.2.2.2.2.2.2.2.1
theorem k0_dev25_lt : ∀ (d0 : Dev nD) (v10 : BitVec 32) (k0_hw1 : k0_chk1 d0 v10), (k0_dev25 d0 v10) < nD := fun d0 v10 k0_hw1 => k0_hw1.2.2.2.2.2.2.2.2.2.2.2.2.2.2.2.2.2.2.2.2.2.2.2.1
theorem k0_dev26_lt : ∀ (d0 : Dev nD) (v10 : BitVec 32) (k0_hw1 : k0_chk1 d0 v10), (k0_dev26 d0 v10) < nD := fun d0 v10 k0_hw1 => k0_hw1.2.2.2.2.2.2.2.2.2.2.2.2.2.2.2.2.2.2.2.2.2.2.2.2.1
theorem k0_dev27_lt : ∀ (d0 : Dev nD) (v10 : BitVec 32) (k0_hw1 : k0_chk1 d0 v10), (k0_dev27 d0 v10) < nD := fun d0 v10 k0_hw1 => k0_hw1.2.2.2.2.2.2.2.2.2.2.2.2.2.2.2.2.2.2.2.2.2.2.2.2.2.1
theorem k0_dev28_lt : ∀ (d0 : Dev nD) (v10 : BitVec 32) (k0_hw1 : k0_chk1 d0 v10), (k0_dev28 d0 v10) < nD := fun d0 v10 k0_hw1 => k0_hw1.2.2.2.2.2.2.2.2.2.2.2.2.2.2.2.2.2.2.2.2.2.2.2.2.2.2.1
theorem k0_dev29_lt : ∀ (d0 : Dev nD) (v10 : BitVec 32) (k0_hw1 : k0_chk1 d0 v10), (k0_dev29 d0 v10) < nD := fun d0 v10 k0_hw1 => k0_hw1.2.2.2.2.2.2.2.2.2.2.2.2.2.2.2.2.2.2.2.2.2.2.2.2.2.2.2.1
theorem k0_dev30_lt : ∀ (d0 : Dev nD) (v10 : BitVec 32) (k0_hw1 : k0_chk1 d0 v10), (k0_dev30 d0 v10) < nD := fun d0 v10 k0_hw1 => k0_hw1.2.2.2.2.2.2.2.2.2.2.2.2.2.2.2.2.2.2.2.2.2.2.2.2.2.2.2.2.1
theorem k0_dev31_lt : ∀ (d0 : Dev nD) (v10 : BitVec 32) (k0_hw1 : k0_chk1 d0 v10), (k0_dev31 d0 v10) < nD := fun d0 v10 k0_hw1 => k0_hw1.2.2.2.2.2.2.2.2.2.2.2.2.2.2.2.2.2.2.2.2.2.2.2.2.2.2.2.2.2.1
theorem k0_dev32_lt : ∀ (d0 : Dev nD) (v10 : BitVec 32) (k0_hw1 : k0_chk1 d0 v10), (k0_dev32 d0 v10) < nD := fun d0 v10 k0_hw1 => k0_hw1.2.2.2.2.2.2.2.2.2.2.2.2.2.2.2.2.2.2.2.2.2.2.2.2.2.2.2.2.2.2.1
theorem k0_dev33_lt : ∀ (d0 : Dev nD) (v10 : BitVec 32) (k0_hw1 : k0_chk1 d0 v10), (k0_dev33 d0 v10) < nD := fun d0 v10 k0_hw1 => k0_hw1.2.2.2.2.2.2.2.2.2.2.2.2.2.2.2.2.2.2.2.2.2.2.2.2.2.2.2.2.2.2.2

abbrev stage0_0 : Fin 1 → Memref sig .tc .smem S2 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S2x2048x1024 : Shape := ⟨3, ![2, 2048, 1024]⟩
abbrev S2 : Shape := ⟨1, ![2]⟩
abbrev S_ : Shape := ⟨0, ![]⟩
abbrev S2x2048 : Shape := ⟨2, ![2, 2048]⟩
abbrev S2x2048x1 : Shape := ⟨3, ![2, 2048, 1]⟩
abbrev S2x1 : Shape := ⟨2, ![2, 1]⟩

abbrev nBuf : Space → Nat
  | .hbm => 45
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S2, .i32⟩
  | .hbm, ⟨2, _⟩ => ⟨S2x2048x1024, .f32⟩
  | .hbm, ⟨3, _⟩ => ⟨S_, .f32⟩
  | .hbm, ⟨4, _⟩ => ⟨S2x2048, .f32⟩
  | .hbm, ⟨5, _⟩ => ⟨S2x2048x1, .f32⟩
  | .hbm, ⟨6, _⟩ => ⟨S_, .f32⟩
  | .hbm, ⟨7, _⟩ => ⟨S2x2048x1, .f32⟩
  | .hbm, ⟨8, _⟩ => ⟨S2x2048x1, .f32⟩
  | .hbm, ⟨9, _⟩ => ⟨S_, .f32⟩
  | .hbm, ⟨10, _⟩ => ⟨S2x2048x1, .f32⟩
  | .hbm, ⟨11, _⟩ => ⟨S2x2048x1, .f32⟩
  | .hbm, ⟨12, _⟩ => ⟨S2x2048x1024, .f32⟩
  | .hbm, ⟨13, _⟩ => ⟨S2x2048x1024, .f32⟩
  | .hbm, ⟨14, _⟩ => ⟨S2x2048x1024, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S2x2048x1024, .f32⟩
  | .hbm, ⟨19, _⟩ => ⟨S2x2048x1024, .f32⟩
  | .hbm, ⟨20, _⟩ => ⟨S_, .f32⟩
  | .hbm, ⟨21, _⟩ => ⟨S2x2048x1024, .f32⟩
  | .hbm, ⟨22, _⟩ => ⟨S2x2048x1024, .f32⟩
  | .hbm, ⟨23, _⟩ => ⟨S2x2048x1024, .i32⟩
  | .hbm, ⟨24, _⟩ => ⟨S2x2048x1024, .i8⟩
  | .hbm, ⟨25, _⟩ => ⟨S2x2048x1024, .i32⟩
  | .hbm, ⟨26, _⟩ => ⟨S2x2048x1024, .f32⟩
  | .hbm, ⟨27, _⟩ => ⟨S_, .f32⟩
  | .hbm, ⟨28, _⟩ => ⟨S2x2048x1, .f32⟩
  | .hbm, ⟨29, _⟩ => ⟨S2x2048x1, .f32⟩
  | .hbm, ⟨30, _⟩ => ⟨S2x2048x1024, .f32⟩
  | .hbm, ⟨31, _⟩ => ⟨S2x2048x1024, .f32⟩
  | .hbm, ⟨32, _⟩ => ⟨S2, .i32⟩
  | .hbm, ⟨33, _⟩ => ⟨S2, .i32⟩
  | .hbm, ⟨34, _⟩ => ⟨S2, .i32⟩
  | .hbm, ⟨35, _⟩ => ⟨S_, .i32⟩
  | .hbm, ⟨36, _⟩ => ⟨S2, .i32⟩
  | .hbm, ⟨37, _⟩ => ⟨S2, .i1⟩
  | .hbm, ⟨38, _⟩ => ⟨S_, .i32⟩
  | .hbm, ⟨39, _⟩ => ⟨S2, .i32⟩
  | .hbm, ⟨40, _⟩ => ⟨S2, .i32⟩
  | .hbm, ⟨41, _⟩ => ⟨S2, .i32⟩
  | .hbm, ⟨42, _⟩ => ⟨S2x1, .i32⟩
  | .hbm, ⟨43, _⟩ => ⟨S2x2048x1024, .f32⟩
  | .hbm, ⟨44, _⟩ => ⟨S2x2048x1024, .bf16⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_2 : Ref sig .tc := ⟨.hbm, 15, rfl⟩
abbrev main_cst_3 : Ref sig .tc := ⟨.hbm, 16, rfl⟩
abbrev main_call1_v0 : Ref sig .tc := ⟨.hbm, 17, rfl⟩
abbrev main_call1_v1 : Ref sig .tc := ⟨.hbm, 18, rfl⟩
abbrev main_call1_v2 : Ref sig .tc := ⟨.hbm, 19, rfl⟩
abbrev main_call1_v3 : Ref sig .tc := ⟨.hbm, 20, rfl⟩
abbrev main_call1_v4 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_4 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_call2_v0 : Ref sig .tc := ⟨.hbm, 32, rfl⟩
abbrev main_call2_v1_0 : Ref sig .tc := ⟨.hbm, 33, rfl⟩
abbrev main_v19 : Ref sig .tc := ⟨.hbm, 34, rfl⟩
abbrev main_c : Ref sig .tc := ⟨.hbm, 35, rfl⟩
abbrev main_v20 : Ref sig .tc := ⟨.hbm, 36, rfl⟩
abbrev main_v21 : Ref sig .tc := ⟨.hbm, 37, rfl⟩
abbrev main_c_5 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩

abbrev nD : Nat := 1
abbrev τ : Topo := Topo.v7x

variable {F : FTy → Type} [FloatOps F]
-- ==== Proof.Prog.lean ====
/-
# The kernel as a loop

The printed body is the fully unrolled pipeline: sixteen chunks sent, then sixteen received. This module names the
kernel's buffers, chunks and semaphores for a SYMBOLIC chunk `k`, writes the body as two loops over the chunks, and
proves that the printed body is that program.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

set_option synthInstance.maxSize 4096

noncomputable section

namespace Cert.KernelIdeal.Pf

open Cert.KernelIdeal Cert.KernelIdeal.Gen
open Idealize.ShloMosaic Idealize.SL Idealize.SL.Sem

variable {F : FTy → Type} [FloatOps F]

/-! ## The kernel's buffers, and their chunks -/

/-- The device's block of `x`, in HBM. -/
abbrev xM : Memref sig .tc .hbm S1x2048x1024 .f32 := Memref.whole main_arg0
/-- The table `pi`, staged in SMEM. -/
abbrev tM : Memref sig .tc .smem S2 .i32 := Memref.whole cc0_stg0_0
/-- The result's staging buffer. -/
abbrev oM : Memref sig .tc .vmem S1x2048x1024 .bf16 := Memref.whole cc0_stg1_0
/-- The two slots a chunk of `x` is fetched into. -/
abbrev bM : Memref sig .tc .vmem S2x128x1024 .f32 := Memref.whole cc0_scratch0
/-- The quantised chunks to send, and their scales. -/
abbrev qsM : Memref sig .tc .vmem S16x128x1024 .i8 := Memref.whole cc0_scratch1
abbrev ssM : Memref sig .tc .vmem S16x128 .f32 := Memref.whole cc0_scratch2
/-- The quantised chunks received, and their scales. -/
abbrev qrM : Memref sig .tc .vmem S16x128x1024 .i8 := Memref.whole cc0_scratch3
abbrev srM : Memref sig .tc .vmem S16x128 .f32 := Memref.whole cc0_scratch4

theorem inbX (k : Fin 16) : ∀ a, (![0, 128 * k.val, 0] : Fin 3 → Nat) a + S1x128x1024.size a ≤ S1x2048x1024.size a := by
  revert k; decide
theorem inbB (b : Fin 2) : ∀ a, (![b.val, 0, 0] : Fin 3 → Nat) a + S1x128x1024.size a ≤ S2x128x1024.size a := by
  revert b; decide
theorem inbQ (k : Fin 16) : ∀ a, (![k.val, 0, 0] : Fin 3 → Nat) a + S1x128x1024.size a ≤ S16x128x1024.size a := by
  revert k; decide
theorem inbS (k : Fin 16) : ∀ a, (![k.val, 0] : Fin 2 → Nat) a + S1x128.size a ≤ S16x128.size a := by
  revert k; decide

/-- Chunk `k` of a device's block; slot `b`; row `k` of a buffer of sixteen chunks, and of one of scales. -/
abbrev rX (k : Fin 16) : Rect S1x2048x1024 := Rect.unit (s := S1x2048x1024) ![0, 128 * k.val, 0] S1x128x1024.size (inbX k)
abbrev rB (b : Fin 2) : Rect S2x128x1024 := Rect.unit (s := S2x128x1024) ![b.val, 0, 0] S1x128x1024.size (inbB b)
abbrev rQ (k : Fin 16) : Rect S16x128x1024 := Rect.unit (s := S16x128x1024) ![k.val, 0, 0] S1x128x1024.size (inbQ k)
abbrev rS (k : Fin 16) : Rect S16x128 := Rect.unit (s := S16x128) ![k.val, 0] S1x128.size (inbS k)

theorem packedX (k : Fin 16) : (rX k).PackedRows (EltTy.packing .bf16) := by revert k; decide
theorem packedQ (k : Fin 16) : (rQ k).PackedRows (EltTy.packing .i8) := by revert k; decide
theorem wordsQ (k : Fin 16) : (rQ k).WholeWords (EltTy.packing .i8) := (packedQ k).wholeWords

abbrev xRow (k : Fin 16) : Memref sig .tc .hbm S128x1024 .f32 :=
  (xM.slice (rX k) (fun _ => rfl)).squeeze S128x1024 squeezes_S1x128x1024_S128x1024
abbrev bRow (b : Fin 2) : Memref sig .tc .vmem S128x1024 .f32 :=
  (bM.slice (rB b) (fun _ => rfl)).squeeze S128x1024 squeezes_S1x128x1024_S128x1024
abbrev qsRow (k : Fin 16) : Memref sig .tc .vmem S128x1024 .i8 :=
  (qsM.slice (rQ k) (fun _ => rfl)).squeeze S128x1024 squeezes_S1x128x1024_S128x1024
abbrev qrRow (k : Fin 16) : Memref sig .tc .vmem S128x1024 .i8 :=
  (qrM.slice (rQ k) (fun _ => rfl)).squeeze S128x1024 squeezes_S1x128x1024_S128x1024
abbrev ssRow (k : Fin 16) : Memref sig .tc .vmem S128 .f32 :=
  (ssM.slice (rS k) (fun _ => rfl)).squeeze S128 squeezes_S1x128_S128
abbrev srRow (k : Fin 16) : Memref sig .tc .vmem S128 .f32 :=
  (srM.slice (rS k) (fun _ => rfl)).squeeze S128 squeezes_S1x128_S128

/-! ## The semaphores -/

/-- The fetch into slot `b`; chunk `k` sent and received, its scales sent and received. -/
def semB (b : Fin 2) : DmaSem sig := ⟨2 + b.val, by show _ < 68; omega⟩
def semQS (k : Fin 16) : DmaSem sig := ⟨4 + k.val, by show _ < 68; omega⟩
def semQR (k : Fin 16) : DmaSem sig := ⟨20 + k.val, by show _ < 68; omega⟩
def semSS (k : Fin 16) : DmaSem sig := ⟨36 + k.val, by show _ < 68; omega⟩
def semSR (k : Fin 16) : DmaSem sig := ⟨52 + k.val, by show _ < 68; omega⟩

/-- The slot chunk `k` is fetched into. -/
def par (k : Fin 16) : Fin 2 := ⟨k.val % 2, by omega⟩

/-! ## The program -/

/-- The programs of the kernel's core. -/
abbrev Kp (F : FTy → Type) [FloatOps F] : Type → Type := TpuEff nD τ sig (Elt F) Λ₀ .tc

/-- Chunk `k` of `x` fetched into its slot. -/
def fetch (k : Fin 16) : Prog (Kp F) PUnit :=
  Prog.lift (.enqueueDma (xRow k) (.here (bRow (par k))) (.dma (semB (par k))) ((View.wordExact_bits rfl).reshape _ _)
    ((View.wordExact_bits rfl).reshape _ _) ⟨Or.inl rfl, trivial⟩)

/-- The fetch of the chunk after `k`, if there is one. -/
def fetchNext (k : Fin 16) : Prog (Kp F) PUnit :=
  if h : k.val + 1 < 16 then fetch ⟨k.val + 1, h⟩ else pure ⟨⟩

/-- The chunk in the slot of chunk `k` quantised into row `k` of the send buffers. -/
def quantRows (k : Fin 16) : Prog (Kp F) PUnit := do
  let v : Vec F S1x128x1024 .f32 ← Prog.lift (.load bM (rB (par k)).toLoadRect (View.loadsAt_vmem h_S1x128x1024))
  let _ : Vec F S1x128x1024 .i8 ← Prog.lift (.load qsM (rQ k).toLoadRect (View.loadsAt_vmem h_S1x128x1024))
  Prog.lift (.store qsM (rQ k) (k0_pay4 v) Finset.univ (View.stores_vmem h_S1x128x1024
    ((Memref.isWhole_whole _).storeExact_slice rfl _ (packedQ k)) (fun _ => rfl)) (.inl rfl))
  let _ : Vec F S1x128 .f32 ← Prog.lift (.load ssM (rS k).toLoadRect (View.loadsAt_vmem h_S1x128))
  Prog.lift (.store ssM (rS k) (k0_pay5 v) Finset.univ (View.stores_vmem_bits_univ h_S1x128 rfl) (.inl rfl))

/-- Chunk `k` awaited and quantised. -/
def quant (k : Fin 16) : Prog (Kp F) PUnit := do
  Prog.lift (.waitDma2 (semB (par k)) (xRow k) (bRow (par k)) ((View.wordExact_bits rfl).reshape _ _)
    ((View.wordExact_bits rfl).reshape _ _))
  quantRows k

/-- Row `k` of the send buffers sent to device `n`. -/
def send (n : Dev nD) (k : Fin 16) : Prog (Kp F) PUnit := do
  Prog.lift (.enqueueDma (qsRow k) (.remote (Dev.tc n) (qrRow k) (.dma (semQS k))) (.dma (semQR k))
    (((Memref.isWhole_whole _).wordExact_slice rfl _ (wordsQ k)).reshape _ _)
    (((Memref.isWhole_whole _).wordExact_slice rfl _ (wordsQ k)).reshape _ _) ⟨⟨rfl, Or.inl rfl⟩, trivial⟩)
  Prog.lift (.enqueueDma (ssRow k) (.remote (Dev.tc n) (srRow k) (.dma (semSS k))) (.dma (semSR k))
    ((View.wordExact_bits rfl).reshape _ _) ((View.wordExact_bits rfl).reshape _ _) ⟨⟨rfl, Or.inl rfl⟩, trivial⟩)

def sendStep (n : Dev nD) (k : Fin 16) : Prog (Kp F) PUnit := do
  fetchNext k
  quant k
  send n k

/-- Row `k` of the receive buffers dequantised and stored into the result. -/
def outRows (k : Fin 16) : Prog (Kp F) PUnit := do
  let v : Vec F S1x128x1024 .i8 ← Prog.lift (.load qrM (rQ k).toLoadRect (View.loadsAt_vmem h_S1x128x1024))
  let w : Vec F S1x128 .f32 ← Prog.lift (.load srM (rS k).toLoadRect (View.loadsAt_vmem h_S1x128))
  let _ : Vec F S1x128x1024 .bf16 ← Prog.lift (.load oM (rX k).toLoadRect (View.loadsAt_vmem h_S1x128x1024))
  Prog.lift (.store oM (rX k) (k0_pay1 v w) Finset.univ (View.stores_vmem h_S1x128x1024
    ((Memref.isWhole_whole _).storeExact_slice rfl _ (packedX k)) (fun _ => rfl)) (.inl rfl))

/-- Row `k` of the receive buffers awaited, then that. -/
def recvStep (k : Fin 16) : Prog (Kp F) PUnit := do
  Prog.lift (.waitDma2 (semSS k) (srRow k) (ssRow k) ((View.wordExact_bits rfl).reshape _ _) ((View.wordExact_bits rfl).reshape _ _))
  Prog.lift (.waitDma2 (semSR k) (ssRow k) (srRow k) ((View.wordExact_bits rfl).reshape _ _) ((View.wordExact_bits rfl).reshape _ _))
  Prog.lift (.waitDma2 (semQS k) (qrRow k) (qsRow k) (((Memref.isWhole_whole _).wordExact_slice rfl _ (wordsQ k)).reshape _ _)
    (((Memref.isWhole_whole _).wordExact_slice rfl _ (wordsQ k)).reshape _ _))
  Prog.lift (.waitDma2 (semQR k) (qsRow k) (qrRow k) (((Memref.isWhole_whole _).wordExact_slice rfl _ (wordsQ k)).reshape _ _)
    (((Memref.isWhole_whole _).wordExact_slice rfl _ (wordsQ k)).reshape _ _))
  outRows k

/-- `step` at chunks `k`, `k + 1`, … `k + n - 1`. -/
def loop (step : Fin 16 → Prog (Kp F) PUnit) : (n k : Nat) → n + k = 16 → Prog (Kp F) PUnit
  | 0, _, _ => pure ⟨⟩
  | n + 1, k, h => do
    step ⟨k, by omega⟩
    loop step n (k + 1) (by omega)

/-- The kernel's body: the first chunk's fetch, the handshake with the device across, the chunks sent, the chunks
    received. -/
def body : Prog (Kp F) PUnit := do
  let d0 : Dev nD ← Prog.lift .deviceId
  let v : Elt F .i32 ← smemLoad tM (Rect.unit (s := S2) (k0_off1 d0) S1.size (k0_off1_inb d0)) numel1_S1 rfl
  have hw : k0_chk1 d0 v := (← Prog.lift (TpuEff.assume (k0_chk1 d0 v) (k0_chk1.dec d0 v))).down
  fetch 0
  semSignalWord (⟨k0_dev1 d0, k0_dev1_lt d0⟩ : Dev nD) (sig.barrier 0 rfl) 1#32
  semWaitWord (sig.barrier 0 rfl) 1#32
  loop (sendStep ⟨k0_dev2 d0 v, k0_dev2_lt d0 v hw⟩) 16 0 rfl
  loop recvStep 16 0 rfl

set_option maxRecDepth 65536 in
/-- The printed body is that program. -/
theorem body_eq : cc0_body (F := F) xM (Memref.isWhole_whole _) tM (Memref.isWhole_whole _) oM (Memref.isWhole_whole _)
    bM (Memref.isWhole_whole _) qsM (Memref.isWhole_whole _) ssM (Memref.isWhole_whole _) qrM (Memref.isWhole_whole _)
    srM (Memref.isWhole_whole _) cc0_scratch5 cc0_scratch6 cc0_scratch7 cc0_scratch8 cc0_scratch9 = body := by
  chain_rfl

end Cert.KernelIdeal.Pf
-- ==== Proof.Protocol.lean ====
/-
# The protocol

Devices exchange quantised chunks pairwise or keep their own: `dst σ c` is the device `c` sends to, and also the one it
receives from (`dst` is an involution). `σ` says whether the two devices of a pair swap.

The state a device shares is in ROUNDS (`Lib/Rounds.lean`), one schedule for every semaphore of the kernel:

* slot `b`'s fetch semaphore has eight rounds, one per chunk fetched into the slot; its duty returns the chunk of `x` and
  hands over the slot holding it;
* chunk `k`'s send semaphores (quantised values, scales) have one round; the duty gives the row sent back;
* chunk `k`'s receive semaphores have one round; the duty hands over the row received, holding the sender's chunk
  quantised, or its scales;
* the barrier semaphore has one round, of one unit, paid by the device across the pair; when the pair swaps, the signal
  hands over the sixteen rows of both receive buffers, which the signalled device may then write.
-/
module

public import proofs.«01_k».proof.Proof.Prog

@[expose] public section

noncomputable section

namespace Cert.KernelIdeal.Pf

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the launch's rounds and the kernel's, both with one duty per round -/

abbrev UB : Type := URounds (GSem nD τ sig) Unit
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg) (σ : Bool)

/-- The memory at launch: arbitrary contents, every counter zero, arbitrary generator registers. -/
def s₀ : MemSt nD τ sig (Elt F) := ⟨m, fun _ => 0, ρ⟩

/-! ## Pairs -/

/-- The device across the pair: the other `y`, the same `x` and `z`. -/
def sw (c : Dev nD) : Dev nD := ⟨(if c.val / 2 % 2 = 0 then c.val + 2 else c.val - 2) % 8, Nat.mod_lt _ (by decide)⟩

theorem sw_sw (c : Dev nD) : sw (sw c) = c := by revert c; decide

/-- The device `c` sends its chunks to. -/
def dst (c : Dev nD) : Dev nD := if σ then sw c else c

theorem dst_dst (c : Dev nD) : dst σ (dst σ c) = c := by
  unfold dst; cases σ
  · rfl
  · exact sw_sw c

def swEquiv : Dev nD ≃ Dev nD := ⟨sw, sw, sw_sw, sw_sw⟩
def dstEquiv : Dev nD ≃ Dev nD := ⟨dst σ, dst σ, dst_dst σ, dst_dst σ⟩

/-- The entry signal names the device across. -/
theorem dev1_eq (c : Dev nD) : (⟨k0_dev1 c, k0_dev1_lt c⟩ : Dev nD) = sw c := by revert c; decide

/-! ## Cells -/

abbrev barS : Sem sig := sig.barrier 0 rfl
abbrev barC (c : Dev nD) : GSem nD τ sig := ((c : Thread nD τ), .reg barS)
abbrev dmaC (c : Dev nD) (s : DmaSem sig) : GSem nD τ sig := ((c : Thread nD τ), .dma s)

/-- The credit of a chunk of `x`, of a quantised chunk, of a chunk's scales. -/
abbrev NB : ℕ := (bRow 0).view.dmaCredit
abbrev NQ : ℕ := (qrRow 0).view.dmaCredit
abbrev NS : ℕ := (srRow 0).view.dmaCredit
theorem NB_pos : 0 < NB := View.dmaCredit_pos _ (by decide)
theorem NQ_pos : 0 < NQ := View.dmaCredit_pos _ (by decide)
theorem NS_pos : 0 < NS := View.dmaCredit_pos _ (by decide)

/-! ## Contents -/

/-- Chunk `k` of device `c`'s block of `x`. -/
def chunk (c : Dev nD) (k : Fin 16) : Vec F S1x128x1024 .f32 :=
  xM.view.readAt (Elt F) (rX k).toLoadRect (m ((c : Thread nD τ).loc main_arg0))

/-- A memref's elements on device `c`, at contents `f` of its buffer. -/
abbrev pt (c : Dev nD) {sp : Space} {s : Shape} {e : EltTy} (v : Memref sig .tc sp s e)
    (f : Buf (Elt F) (v.view.loc (c : Thread nD τ))) : sProp 𝕄 :=
  v.view.loc (c : Thread nD τ) ↦[v.view.set]{fullShare} f

/-- A memref's elements at some contents. -/
def any (c : Dev nD) {sp : Space} {s : Shape} {e : EltTy} (v : Memref sig .tc sp s e) : sProp 𝕄 :=
  iprop(∃ f : Buf (Elt F) (v.view.loc (c : Thread nD τ)), pt c v f)

/-- Row `b` of the fetch slots holding `w`; row `k` of the send and receive buffers holding `w`. -/
def bAt (c : Dev nD) (b : Fin 2) (w : Vec F S1x128x1024 .f32) : sProp 𝕄 :=
  iprop(∃ f : Buf (Elt F) (bM.view.loc (c : Thread nD τ)), ⌜bM.view.readAt (Elt F) (rB b).toLoadRect f = w⌝ ∗ pt c (bRow b) f)
def qrAt (c : Dev nD) (k : Fin 16) (w : Vec F S1x128x1024 .i8) : sProp 𝕄 :=
  iprop(∃ f : Buf (Elt F) (qrM.view.loc (c : Thread nD τ)), ⌜qrM.view.readAt (Elt F) (rQ k).toLoadRect f = w⌝ ∗ pt c (qrRow k) f)
def srAt (c : Dev nD) (k : Fin 16) (w : Vec F S1x128 .f32) : sProp 𝕄 :=
  iprop(∃ f : Buf (Elt F) (srM.view.loc (c : Thread nD τ)), ⌜srM.view.readAt (Elt F) (rS k).toLoadRect f = w⌝ ∗ pt c (srRow k) f)

/-- Chunk `k` of device `c`'s block of `x`, held at the launch contents. -/
def xPt (c : Dev nD) (k : Fin 16) : sProp 𝕄 := pt c (xRow k) (m ((c : Thread nD τ).loc main_arg0))

section
omit [FloatOps F]
instance any_storable (c : Dev nD) {sp : Space} {s : Shape} {e : EltTy} (v : Memref sig .tc sp s e) :
    BI.Storable (upEmb : UEmb _ 𝕄) (any (F := F) c v) := by unfold any; infer_instance
instance bAt_storable (c : Dev nD) (b w) : BI.Storable (upEmb : UEmb _ 𝕄) (bAt (F := F) c b w) := by unfold bAt; infer_instance
instance qrAt_storable (c : Dev nD) (k w) : BI.Storable (upEmb : UEmb _ 𝕄) (qrAt (F := F) c k w) := by unfold qrAt; infer_instance
instance srAt_storable (c : Dev nD) (k w) : BI.Storable (upEmb : UEmb _ 𝕄) (srAt (F := F) c k w) := by unfold srAt; infer_instance
instance xPt_storable (c : Dev nD) (k) : BI.Storable (upEmb : UEmb _ 𝕄) (xPt (F := F) m c k) := by unfold xPt; infer_instance
end

/-! ## The schedule -/

/-- What the entry signal hands device `c`: if the pair swaps, the receive rows of the device across. -/
def barPay (c : Dev nD) : sProp 𝕄 :=
  if σ then bigSep Finset.univ fun k : Fin 16 => iprop(any (sw c) (qrRow k) ∗ any (sw c) (srRow k)) else iprop(emp)

/-- The semaphore a natural number counts in a family of sixteen or of two, by its remainder. -/
def i16 (n : ℕ) : Fin 16 := ⟨n % 16, Nat.mod_lt _ (by decide)⟩
def i2 (n : ℕ) : Fin 2 := ⟨n % 2, Nat.mod_lt _ (by decide)⟩

theorem i16_val (k : Fin 16) : i16 k.val = k := Fin.ext (Nat.mod_eq_of_lt k.isLt)
theorem par_eq (k : Fin 16) : par k = i2 k.val := rfl

/-- What the duty of semaphore `s` of device `c` delivers in round `r`. -/
def pay (c : Dev nD) (s : SemLoc sig) (r : ℕ) : sProp 𝕄 :=
  match s with
  | .reg _ => barPay σ c
  | .dma q =>
    if q.val < 4 then iprop(bAt c (i2 q.val) (chunk m c (i16 (2 * r + q.val % 2))) ∗ xPt m c (i16 (2 * r + q.val % 2)))
    else if q.val < 20 then any c (qsRow (i16 (q.val - 4)))
    else if q.val < 36 then qrAt c (i16 (q.val - 20)) (k0_pay4 (chunk m (dst σ c) (i16 (q.val - 20))))
    else if q.val < 52 then any c (ssRow (i16 (q.val - 36)))
    else srAt c (i16 (q.val - 52)) (k0_pay5 (chunk m (dst σ c) (i16 (q.val - 52))))

/-- The rounds semaphore `s` has a duty in. -/
def due (s : SemLoc sig) (r : ℕ) : Prop :=
  match s with
  | .reg _ => r = 0
  | .dma q => 2 ≤ q.val ∧ (if q.val < 4 then r < 8 else r = 0)

instance due_dec (s : SemLoc sig) (r : ℕ) : Decidable (due s r) := by unfold due; cases s <;> infer_instance

/-- The credit of a duty. -/
def amt (s : SemLoc sig) : ℕ :=
  match s with
  | .reg _ => 1
  | .dma q => if q.val < 4 then NB else if q.val < 36 then NQ else NS

def sched : Rounds.Schedule (GSem nD τ sig) Unit 𝕄 where
  duties g r := if g.1.2 = .tc ∧ due g.2 r then {()} else ∅
  unitless _ := False
  amount g _ _ := amt g.2
  payload g r _ := pay m σ g.1.1 g.2 r
  amount_pos g _ _ _ := by
    unfold amt
    split
    · exact Nat.one_pos
    · split; · exact NB_pos
      split; · exact NQ_pos
      exact NS_pos

instance barPay_storable (c : Dev nD) : BI.Storable (upEmb : UEmb _ 𝕄) (barPay (F := F) σ c) := by
  unfold barPay; split <;> infer_instance

instance sched_payload_storable (g : GSem nD τ sig) (r : ℕ) (d : Unit) :
    BI.Storable (upEmb : UEmb _ 𝕄) ((sched (F := F) m σ).payload g r d) := by
  show BI.Storable upEmb (pay m σ g.1.1 g.2 r)
  unfold pay
  (repeat' split) <;> infer_instance

/-! ### The tables -/

section Tables
variable (c : Dev nD) (k : Fin 16)

theorem duties_of {g : GSem nD τ sig} {r : ℕ} (h : g.1.2 = .tc) (h' : due g.2 r) : (sched (F := F) m σ).duties g r = {()} :=
  if_pos ⟨h, h'⟩

theorem mem_duties {g : GSem nD τ sig} {r : ℕ} (h : g.1.2 = .tc) (h' : due g.2 r) : () ∈ (sched (F := F) m σ).duties g r := by
  rw [duties_of m σ h h']; exact Finset.mem_singleton_self _

theorem expect_of {g : GSem nD τ sig} {r : ℕ} (h : g.1.2 = .tc) (h' : due g.2 r) : (sched (F := F) m σ).expect g r = amt g.2 := by
  unfold Schedule.expect Schedule.amountOf; rw [duties_of m σ h h', Finset.sum_singleton]; rfl

theorem rest_of {g : GSem nD τ sig} {r : ℕ} (h : g.1.2 = .tc) (h' : due g.2 r) :
    bigSep ((sched (F := F) m σ).duties g r \ ∅) (fun d => (sched (F := F) m σ).payload g r d) = pay m σ g.1.1 g.2 r := by
  rw [Finset.sdiff_empty, duties_of m σ h h', bigSep_singleton]; rfl

/-- A cell past its last round has no duty left. -/
theorem duties_later {g : GSem nD τ sig} {R : ℕ} (h : ∀ r, R ≤ r → ¬ due g.2 r) :
    ∀ r, R ≤ r → (sched (F := F) m σ).duties g r = ∅ := fun r hr => if_neg fun h' => h r hr h'.2

theorem due_bar : due (.reg barS) 0 := rfl
theorem due_B {b : Fin 2} {r : ℕ} (h : r < 8) : due (.dma (semB b)) r := by
  show 2 ≤ 2 + b.val ∧ (if 2 + b.val < 4 then _ else _); rw [if_pos (by omega)]; exact ⟨by omega, h⟩
theorem due_QS : due (.dma (semQS k)) 0 := by
  show 2 ≤ 4 + k.val ∧ (if 4 + k.val < 4 then _ else _); rw [if_neg (by omega)]; exact ⟨by omega, rfl⟩
theorem due_QR : due (.dma (semQR k)) 0 := by
  show 2 ≤ 20 + k.val ∧ (if 20 + k.val < 4 then _ else _); rw [if_neg (by omega)]; exact ⟨by omega, rfl⟩
theorem due_SS : due (.dma (semSS k)) 0 := by
  show 2 ≤ 36 + k.val ∧ (if 36 + k.val < 4 then _ else _); rw [if_neg (by omega)]; exact ⟨by omega, rfl⟩
theorem due_SR : due (.dma (semSR k)) 0 := by
  show 2 ≤ 52 + k.val ∧ (if 52 + k.val < 4 then _ else _); rw [if_neg (by omega)]; exact ⟨by omega, rfl⟩

theorem not_due_bar {r : ℕ} (h : 1 ≤ r) : ¬ due (.reg barS) r := by show ¬ r = 0; omega
theorem not_due_B {b : Fin 2} {r : ℕ} (h : 8 ≤ r) : ¬ due (.dma (semB b)) r := by
  show ¬ (2 ≤ 2 + b.val ∧ (if 2 + b.val < 4 then _ else _)); rw [if_pos (by omega)]; omega
theorem not_due_QS {r : ℕ} (h : 1 ≤ r) : ¬ due (.dma (semQS k)) r := by
  show ¬ (2 ≤ 4 + k.val ∧ (if 4 + k.val < 4 then _ else _)); rw [if_neg (by omega)]; omega
theorem not_due_QR {r : ℕ} (h : 1 ≤ r) : ¬ due (.dma (semQR k)) r := by
  show ¬ (2 ≤ 20 + k.val ∧ (if 20 + k.val < 4 then _ else _)); rw [if_neg (by omega)]; omega
theorem not_due_SS {r : ℕ} (h : 1 ≤ r) : ¬ due (.dma (semSS k)) r := by
  show ¬ (2 ≤ 36 + k.val ∧ (if 36 + k.val < 4 then _ else _)); rw [if_neg (by omega)]; omega
theorem not_due_SR {r : ℕ} (h : 1 ≤ r) : ¬ due (.dma (semSR k)) r := by
  show ¬ (2 ≤ 52 + k.val ∧ (if 52 + k.val < 4 then _ else _)); rw [if_neg (by omega)]; omega

theorem amt_B (b : Fin 2) : amt (.dma (semB b)) = NB := by
  show (if 2 + b.val < 4 then _ else _) = _; rw [if_pos (by omega)]
theorem amt_QS : amt (.dma (semQS k)) = NQ := by
  show (if 4 + k.val < 4 then _ else if 4 + k.val < 36 then _ else _) = _; rw [if_neg (by omega), if_pos (by omega)]
theorem amt_QR : amt (.dma (semQR k)) = NQ := by
  show (if 20 + k.val < 4 then _ else if 20 + k.val < 36 then _ else _) = _; rw [if_neg (by omega), if_pos (by omega)]
theorem amt_SS : amt (.dma (semSS k)) = NS := by
  show (if 36 + k.val < 4 then _ else if 36 + k.val < 36 then _ else _) = _; rw [if_neg (by omega), if_neg (by omega)]
theorem amt_SR : amt (.dma (semSR k)) = NS := by
  show (if 52 + k.val < 4 then _ else if 52 + k.val < 36 then _ else _) = _; rw [if_neg (by omega), if_neg (by omega)]

theorem pay_B : pay m σ c (.dma (semB (par k))) (k.val / 2) = iprop(bAt c (par k) (chunk m c k) ∗ xPt m c k) := by
  have h : i16 (2 * (k.val / 2) + (2 + k.val % 2) % 2) = k := Fin.ext (by show _ % 16 = _; omega)
  have h' : i2 (2 + k.val % 2) = par k := Fin.ext (by show _ % 2 = _ % 2; omega)
  show (if 2 + k.val % 2 < 4 then _ else _) = _
  rw [if_pos (by omega)]
  show iprop(bAt c (i2 (2 + k.val % 2)) (chunk m c (i16 (2 * (k.val / 2) + (2 + k.val % 2) % 2)))
    ∗ xPt m c (i16 (2 * (k.val / 2) + (2 + k.val % 2) % 2))) = _
  rw [h, h']
theorem pay_QS (r : ℕ) : pay m σ c (.dma (semQS k)) r = any c (qsRow k) := by
  show (if 4 + k.val < 4 then _ else if 4 + k.val < 20 then any c (qsRow (i16 (4 + k.val - 4))) else _) = _
  rw [if_neg (by omega), if_pos (by omega), Nat.add_sub_cancel_left, i16_val]
theorem pay_QR (r : ℕ) : pay m σ c (.dma (semQR k)) r = qrAt c k (k0_pay4 (chunk m (dst σ c) k)) := by
  show (if 20 + k.val < 4 then _ else if 20 + k.val < 20 then _ else if 20 + k.val < 36 then
    qrAt c (i16 (20 + k.val - 20)) (k0_pay4 (chunk m (dst σ c) (i16 (20 + k.val - 20)))) else _) = _
  rw [if_neg (by omega), if_neg (by omega), if_pos (by omega), Nat.add_sub_cancel_left, i16_val]
theorem pay_SS (r : ℕ) : pay m σ c (.dma (semSS k)) r = any c (ssRow k) := by
  show (if 36 + k.val < 4 then _ else if 36 + k.val < 20 then _ else if 36 + k.val < 36 then _ else if 36 + k.val < 52 then
    any c (ssRow (i16 (36 + k.val - 36))) else _) = _
  rw [if_neg (by omega), if_neg (by omega), if_neg (by omega), if_pos (by omega), Nat.add_sub_cancel_left, i16_val]
theorem pay_SR (r : ℕ) : pay m σ c (.dma (semSR k)) r = srAt c k (k0_pay5 (chunk m (dst σ c) k)) := by
  show (if 52 + k.val < 4 then _ else if 52 + k.val < 20 then _ else if 52 + k.val < 36 then _ else if 52 + k.val < 52 then _ else
    srAt c (i16 (52 + k.val - 52)) (k0_pay5 (chunk m (dst σ c) (i16 (52 + k.val - 52))))) = _
  rw [if_neg (by omega), if_neg (by omega), if_neg (by omega), if_neg (by omega), Nat.add_sub_cancel_left, i16_val]

end Tables

/-! ## What a device owes at launch; the levels -/

/-- What device `c` owes its destination's receive cells with `n` chunks left to send, the next one's last. -/
def owedQ (c : Dev nD) : ℕ → CellTallies nD τ sig Unit
  | 0 => 0
  | n + 1 => owedQ c n + tallyAt (dmaC (dst σ c) (semSR (i16 (15 - n)))) () NS + tallyAt (dmaC (dst σ c) (semQR (i16 (15 - n)))) () NQ

/-- And, first, a unit to the barrier of the device across. -/
def O₀ (c : Dev nD) : CellTallies nD τ sig Unit := owedQ σ c 16 + tallyAt (barC (sw c)) () 1

def L (g : GSem nD τ sig) : Finset Unit := if g.1.2 = .tc then {()} else ∅

/-- The barrier at 1, the receive cells at 2, everything else at 0. -/
def lv (g : GSem nD τ sig) (_ : Unit) : ℕ :=
  match g.2 with
  | .reg _ => 1
  | .dma q => if 20 ≤ q.val ∧ q.val < 36 ∨ 52 ≤ q.val then 2 else 0

theorem L_of_ne (g : GSem nD τ sig) (h : g.1.2 ≠ .tc) : L g = ∅ := if_neg h
theorem L_tc (c : Dev nD) (sm : SemLoc sig) : L ((c : Thread nD τ), sm) = {()} := if_pos rfl

theorem lv_QR (c : Dev nD) (k : Fin 16) : lv (dmaC c (semQR k)) () = 2 := by
  have h : (semQR k).val = 20 + k.val := rfl
  exact if_pos (by omega)
theorem lv_SR (c : Dev nD) (k : Fin 16) : lv (dmaC c (semSR k)) () = 2 := by
  have h : (semSR k).val = 52 + k.val := rfl
  exact if_pos (by omega)

theorem owedQ_pos (c : Dev nD) {g : GSem nD τ sig} {u : Unit} : ∀ n, 0 < owedQ σ c n g u →
    ∃ k, g = dmaC (dst σ c) (semSR k) ∨ g = dmaC (dst σ c) (semQR k)
  | 0, h => absurd h (Nat.lt_irrefl 0)
  | n + 1, h => by
    unfold owedQ at h
    rw [Pi.add_apply, Finsupp.add_apply, Pi.add_apply, Finsupp.add_apply, tallyAt_apply, tallyAt_apply] at h
    by_cases h1 : g = dmaC (dst σ c) (semSR (i16 (15 - n)))
    · exact ⟨_, .inl h1⟩
    by_cases h2 : g = dmaC (dst σ c) (semQR (i16 (15 - n)))
    · exact ⟨_, .inr h2⟩
    rw [if_neg (fun h' => h1 h'.1), if_neg (fun h' => h2 h'.1)] at h
    exact owedQ_pos c n h

/-- A wait below every level owed. -/
theorem mayWait_of {c : Dev nD} {sm : SemLoc sig} {O : CellTallies nD τ sig Unit} (l : ℕ) (hs : lv ((c : Thread nD τ), sm) () ≤ l)
    (hO : ∀ g u, 0 < O g u → g.1.2 = .tc ∧ l < lv g ()) :
    (levAts L lv : sProp 𝕄) ⊢ MayWait (c : Thread nD τ) sm () O :=
  MayOwe.of_cut (L := L) (lev := lv) l
    (fun p hp => by rw [Finset.mem_singleton.mp hp, L_tc]; exact Finset.mem_singleton_self _)
    (fun g u hg => by unfold L; rw [if_pos (hO g u hg).1]; exact Finset.mem_singleton_self _)
    (fun p hp => by rw [Finset.mem_singleton.mp hp]; exact hs)
    (fun g u hg => (hO g u hg).2)

theorem owedQ_level (c : Dev nD) (n : ℕ) (g : GSem nD τ sig) (u : Unit) (h : 0 < owedQ σ c n g u) : g.1.2 = .tc ∧ 1 < lv g () := by
  obtain ⟨k, rfl | rfl⟩ := owedQ_pos σ c n h
  · exact ⟨rfl, by rw [lv_SR]; decide⟩
  · exact ⟨rfl, by rw [lv_QR]; decide⟩

theorem O₀_level (c : Dev nD) (g : GSem nD τ sig) (u : Unit) (h : 0 < O₀ σ c g u) : g.1.2 = .tc ∧ 0 < lv g () := by
  unfold O₀ at h
  rw [Pi.add_apply, Finsupp.add_apply, tallyAt_apply] at h
  by_cases h1 : g = barC (sw c)
  · subst h1; exact ⟨rfl, Nat.one_pos⟩
  rw [if_neg (fun h' => h1 h'.1)] at h
  exact ⟨(owedQ_level σ c 16 g u h).1, Nat.lt_trans Nat.zero_lt_one (owedQ_level σ c 16 g u h).2⟩

/-- At the barrier wait a device owes receive cells only. -/
theorem mayWait_bar (c : Dev nD) : (levAts L lv : sProp 𝕄) ⊢ MayWait (c : Thread nD τ) (.reg barS) () (owedQ σ c 16) :=
  mayWait_of 1 le_rfl (owedQ_level σ c 16)

/-- At a fetch wait too. -/
theorem mayWait_B (c : Dev nD) (b : Fin 2) (n : ℕ) : (levAts L lv : sProp 𝕄) ⊢ MayWait (c : Thread nD τ) (.dma (semB b)) () (owedQ σ c n) :=
  mayWait_of 0 (by have h : (semB b).val = 2 + b.val := rfl; exact (if_neg (by omega)).le)
    fun g u h => ⟨(owedQ_level σ c n g u h).1, Nat.lt_trans Nat.zero_lt_one (owedQ_level σ c n g u h).2⟩

end Cert.KernelIdeal.Pf
-- ==== Proof.Steps.lean ====
/-
# The steps of the two loops

The rule of each step of the kernel's body, at a symbolic device and a symbolic chunk: what it takes, what it leaves.
-/
module

public import proofs.«01_k».proof.Proof.Protocol

@[expose] public section

noncomputable section

namespace Cert.KernelIdeal.Pf

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (σ : Bool)

abbrev 𝒱₀ : Variants := Variants.none

/-! ## The cells' records -/

/-- The semaphores with rounds: the barrier, then the sixty-six of the kernel's own. -/
def csem (i : Fin 67) : SemLoc sig := if i.val = 0 then .reg barS else .dma ⟨i.val + 1, by show _ < 68; omega⟩
abbrev kcell (ck : Dev nD × Fin 67) : GSem nD τ sig := ((ck.1 : Thread nD τ), csem ck.2)

/-- Where a semaphore of the kernel's own is among them. -/
def cix (q : DmaSem sig) : Fin 67 := ⟨q.val - 1, by have h : q.val < 68 := q.isLt; omega⟩

theorem csem_zero : csem 0 = .reg barS := rfl
theorem csem_cix (q : DmaSem sig) (h : 2 ≤ q.val) : csem (cix q) = .dma q := by
  unfold csem
  have h' : (cix q).val = q.val - 1 := rfl
  rw [if_neg (by omega)]
  exact congrArg SemLoc.dma (Fin.ext (by show q.val - 1 + 1 = q.val; omega))

/-- Every cell's invariant, under the names `K`, and that every cell has reached round 0. -/
def records (K : Dev nD × Fin 67 → ℕ) : sProp 𝕄 :=
  iprop((bigSep Finset.univ fun ck : Dev nD × Fin 67 => cellInv ER (sched m σ) (K ck) (kcell ck))
    ∗ bigSep Finset.univ fun ck : Dev nD × Fin 67 => reached ER (kcell ck) 0)

instance records_persistent (K : Dev nD × Fin 67 → ℕ) : BI.Persistent (records m σ K) := by unfold records; infer_instance

variable (K : Dev nD × Fin 67 → ℕ)

theorem inv_cell (ck : Dev nD × Fin 67) : records m σ K ⊢ cellInv ER (sched m σ) (K ck) (kcell ck) := by
  unfold records
  iintro ⟨H, -⟩
  iapply (show (bigSep Finset.univ fun ck : Dev nD × Fin 67 => (cellInv ER (sched m σ) (K ck) (kcell ck) : sProp 𝕄))
    ⊢ cellInv ER (sched m σ) (K ck) (kcell ck) from bigSep_elim (Finset.mem_univ ck))
  iexact H

theorem reached_cell (ck : Dev nD × Fin 67) : records m σ K ⊢ reached ER (kcell ck) 0 := by
  unfold records
  iintro ⟨-, H⟩
  iapply (show (bigSep Finset.univ fun ck : Dev nD × Fin 67 => (reached ER (kcell ck) 0 : sProp 𝕄))
    ⊢ reached ER (kcell ck) 0 from bigSep_elim (Finset.mem_univ ck))
  iexact H

theorem inv_bar (c : Dev nD) : records m σ K ⊢ cellInv ER (sched m σ) (K (c, 0)) (barC c) := inv_cell m σ K (c, 0)
theorem reached_bar (c : Dev nD) : records m σ K ⊢ reached ER (barC c) 0 := reached_cell m σ K (c, 0)
theorem inv_dma (c : Dev nD) (q : DmaSem sig) (h : 2 ≤ q.val) : records m σ K ⊢ cellInv ER (sched m σ) (K (c, cix q)) (dmaC c q) := by
  have := inv_cell m σ K (c, cix q); rwa [kcell, csem_cix q h] at this
theorem reached_dma (c : Dev nD) (q : DmaSem sig) (h : 2 ≤ q.val) : records m σ K ⊢ reached ER (dmaC c q) 0 := by
  have := reached_cell m σ K (c, cix q); rwa [kcell, csem_cix q h] at this

theorem two_B (b : Fin 2) : 2 ≤ (semB b).val := by show 2 ≤ 2 + b.val; omega
theorem two_QS (k : Fin 16) : 2 ≤ (semQS k).val := by show 2 ≤ 4 + k.val; omega
theorem two_QR (k : Fin 16) : 2 ≤ (semQR k).val := by show 2 ≤ 20 + k.val; omega
theorem two_SS (k : Fin 16) : 2 ≤ (semSS k).val := by show 2 ≤ 36 + k.val; omega
theorem two_SR (k : Fin 16) : 2 ≤ (semSR k).val := by show 2 ≤ 52 + k.val; omega

/-! ## Rows read and written -/

section Rows
omit [FloatOps F]
variable {sp : Space} {s : Shape} {e : EltTy}

/-- A row's elements are those its rectangle accesses. -/
theorem set_row (v : Memref sig .tc sp s e) (r : Rect s) (hr : ∀ a, r.stride a = 1) (s' : Shape) (h : r.shape.Squeezes s') :
    ((v.slice r hr).squeeze s' h).view.set = (v.access r).set := View.set_reshape _ _

theorem load_sub (v : Memref sig .tc sp s e) (r : Rect s) (hr : ∀ a, r.stride a = 1) (s' : Shape) (h : r.shape.Squeezes s') :
    v.view.setOn r.toLoadRect.set ⊆ ((v.slice r hr).squeeze s' h).view.set := by
  rw [set_row, View.set_slice]; exact Finset.Subset.refl _

theorem store_sub (v : Memref sig .tc sp s e) (r : Rect s) (hr : ∀ a, r.stride a = 1) (s' : Shape) (h : r.shape.Squeezes s') :
    (v.access r).setOn Finset.univ ⊆ ((v.slice r hr).squeeze s' h).view.set := by
  rw [set_row]; exact Finset.Subset.refl _

/-- A row copied onto another, both squeezed: the destination then reads what the source reads. -/
theorem read_copied {sp' : Space} {t s' : Shape} (V : View sig .tc sp t e) (V' : View sig .tc sp' t e) (h : s'.numel = t.numel)
    (h' : s'.numel = t.numel) (g : V.ty.Contents (Elt F)) (f : V'.ty.Contents (Elt F)) :
    V'.read (Elt F) ((V'.reshape s' h').write (Elt F) f ((V.reshape s' h).read (Elt F) g) Finset.univ) = V.read (Elt F) g := by
  funext x
  obtain ⟨y, rfl⟩ := (Shape.reshapeEquiv h).surjective x
  exact congrFun (View.read_write_univ (v := V'.reshape s' h') f ((V.reshape s' h).read (Elt F) g)) y
end Rows

/-! ## What the steps take and leave -/

/-- Core `c` owing `O`, whatever it has waited on. -/
def owing (c : Dev nD) (O : CellTallies nD τ sig Unit) : sProp 𝕄 := iprop(∃ W : Waits sig Unit, owes (c : Thread nD τ) O W)

/-- The slot for the `n`-th chunk free to be fetched into, and with that fetch in flight. -/
def slotFree (c : Dev nD) (n : ℕ) : sProp 𝕄 :=
  iprop(atPos ER (dmaC c (semB (i2 n))) (n / 2) ∅ 0 ∗ reached ER (dmaC c (semB (i2 n))) (n / 2) ∗ any c (bRow (i2 n)))
def slotBusy (c : Dev nD) (n : ℕ) : sProp 𝕄 :=
  iprop(cred (tallyAt (dmaC c (semB (i2 n))) () NB) ∗ atPos ER (dmaC c (semB (i2 n))) (n / 2) ∅ 0)

theorem slotFree_next (c : Dev nD) (n : ℕ) :
    slotFree (F := F) c (n + 2) = iprop(atPos ER (dmaC c (semB (i2 n))) (n / 2 + 1) ∅ 0
      ∗ reached ER (dmaC c (semB (i2 n))) (n / 2 + 1) ∗ any c (bRow (i2 n))) := by
  have h : i2 (n + 2) = i2 n := Fin.ext (by show (n + 2) % 2 = n % 2; omega)
  have h' : (n + 2) / 2 = n / 2 + 1 := by omega
  unfold slotFree; rw [h, h']

/-- What the fetch of chunk `k` takes: the chunk, and the fetch's duty. -/
def toFetch (c : Dev nD) (k : Fin 16) : sProp 𝕄 :=
  iprop(xPt m c k ∗ dutyTok ER (dmaC c (semB (par k))) (k.val / 2) ())

/-- What the sending of chunk `k` takes beside the chunk: the rows it writes here and at the destination, the four duties. -/
def toSend (c : Dev nD) (k : Fin 16) : sProp 𝕄 :=
  iprop(any c (qsRow k) ∗ any c (ssRow k) ∗ any (dst σ c) (qrRow k) ∗ any (dst σ c) (srRow k)
    ∗ dutyTok ER (dmaC c (semQS k)) 0 () ∗ dutyTok ER (dmaC (dst σ c) (semQR k)) 0 ()
    ∗ dutyTok ER (dmaC c (semSS k)) 0 () ∗ dutyTok ER (dmaC (dst σ c) (semSR k)) 0 ())

/-- What it leaves: the send semaphores' credit. -/
def sent (c : Dev nD) (k : Fin 16) : sProp 𝕄 :=
  iprop(cred (tallyAt (dmaC c (semQS k)) () NQ) ∗ cred (tallyAt (dmaC c (semSS k)) () NS))

/-- What the receiving of chunk `k` takes beside that: its position at the four cells, and the receive cells' credit. -/
def toRecv (c : Dev nD) (k : Fin 16) : sProp 𝕄 :=
  iprop(atPos ER (dmaC c (semQS k)) 0 ∅ 0 ∗ atPos ER (dmaC c (semQR k)) 0 ∅ 0 ∗ atPos ER (dmaC c (semSS k)) 0 ∅ 0
    ∗ atPos ER (dmaC c (semSR k)) 0 ∅ 0 ∗ cred (tallyAt (dmaC c (semQR k)) () NQ) ∗ cred (tallyAt (dmaC c (semSR k)) () NS))

/-- What it leaves: the four rows, the four counters at zero. -/
def recvd (c : Dev nD) (k : Fin 16) : sProp 𝕄 :=
  iprop((any c (qsRow k) ∗ any c (ssRow k) ∗ any c (qrRow k) ∗ any c (srRow k))
    ∗ semVal (dmaC c (semQS k)) 0 ∗ semVal (dmaC c (semQR k)) 0 ∗ semVal (dmaC c (semSS k)) 0 ∗ semVal (dmaC c (semSR k)) 0)

/-- The block of chunk `k` that device `c` stores into its result: the chunk `k` of the device it receives from, quantised
    and back. -/
def outChunk (c : Dev nD) (k : Fin 16) : Vec F S1x128x1024 .bf16 :=
  k0_pay1 (k0_pay4 (chunk m (dst σ c) k)) (k0_pay5 (chunk m (dst σ c) k))

/-! ## The rules -/

section Credits
theorem credit_B (b : Fin 2) : (bRow b).view.dmaCredit = NB := rfl
theorem credit_QS (k : Fin 16) : (qsRow k).view.dmaCredit = NQ := rfl
theorem credit_QR (k : Fin 16) : (qrRow k).view.dmaCredit = NQ := rfl
theorem credit_SS (k : Fin 16) : (ssRow k).view.dmaCredit = NS := rfl
theorem credit_SR (k : Fin 16) : (srRow k).view.dmaCredit = NS := rfl
end Credits

section Rules
variable (c : Dev nD) (k : Fin 16)

abbrev run (c : Dev nD) {α : Type} (p : Prog (Kp F) α) (Q : α → sProp 𝕄) : sProp 𝕄 :=
  wp frame (wpE (defs₀ (F := F)) 𝒱₀ (c : Thread nD τ) none) Set.univ p Q

/-- A chunk of `x` landed in its slot pays the fetch's duty. -/
theorem pay_fetch (f : Buf (Elt F) (bM.view.loc (c : Thread nD τ))) :
    iprop(pt c (bRow (par k)) ((bRow (par k)).view.write (Elt F) f ((xRow k).view.read (Elt F) (m ((c : Thread nD τ).loc main_arg0))) Finset.univ)
      ∗ pt c (xRow k) (m ((c : Thread nD τ).loc main_arg0)))
    ⊢ (sched m σ).payload (dmaC c (semB (par k))) (k.val / 2) () := by
  show _ ⊢ pay m σ c (.dma (semB (par k))) (k.val / 2)
  rw [pay_B]
  unfold bAt xPt
  iintro ⟨Hd, Hs⟩
  isplitl [Hd]
  · iexists _
    isplitr; swap
    · iexact Hd
    · ipureintro
      exact read_copied (xM.view.slice (rX k)) (bM.view.slice (rB (par k))) _ _ _ _
  · iexact Hs

/-- A send row pays the duty of its send semaphore; landed at the destination, that of the receive semaphore there. -/
theorem pay_sentQ (f : Buf (Elt F) (qsM.view.loc (c : Thread nD τ))) :
    pt c (qsRow k) f ⊢ (sched m σ).payload (dmaC c (semQS k)) 0 () := by
  show _ ⊢ pay m σ c (.dma (semQS k)) 0
  rw [pay_QS]
  unfold any
  iintro H; iexists _; iexact H

theorem pay_sentS (f : Buf (Elt F) (ssM.view.loc (c : Thread nD τ))) :
    pt c (ssRow k) f ⊢ (sched m σ).payload (dmaC c (semSS k)) 0 () := by
  show _ ⊢ pay m σ c (.dma (semSS k)) 0
  rw [pay_SS]
  unfold any
  iintro H; iexists _; iexact H

theorem pay_landedQ (f : Buf (Elt F) (qsM.view.loc (c : Thread nD τ))) (g : Buf (Elt F) (qrM.view.loc (dst σ c : Thread nD τ)))
    (hf : qsM.view.readAt (Elt F) (rQ k).toLoadRect f = k0_pay4 (chunk m c k)) :
    pt (dst σ c) (qrRow k) ((qrRow k).view.write (Elt F) g ((qsRow k).view.read (Elt F) f) Finset.univ)
    ⊢ (sched m σ).payload (dmaC (dst σ c) (semQR k)) 0 () := by
  show _ ⊢ pay m σ (dst σ c) (.dma (semQR k)) 0
  rw [pay_QR, dst_dst]
  unfold qrAt
  iintro H; iexists _
  isplitr; swap; · iexact H
  ipureintro
  exact (read_copied (qsM.view.slice (rQ k)) (qrM.view.slice (rQ k)) _ _ _ _).trans hf

theorem pay_landedS (f : Buf (Elt F) (ssM.view.loc (c : Thread nD τ))) (g : Buf (Elt F) (srM.view.loc (dst σ c : Thread nD τ)))
    (hf : ssM.view.readAt (Elt F) (rS k).toLoadRect f = k0_pay5 (chunk m c k)) :
    pt (dst σ c) (srRow k) ((srRow k).view.write (Elt F) g ((ssRow k).view.read (Elt F) f) Finset.univ)
    ⊢ (sched m σ).payload (dmaC (dst σ c) (semSR k)) 0 () := by
  show _ ⊢ pay m σ (dst σ c) (.dma (semSR k)) 0
  rw [pay_SR, dst_dst]
  unfold srAt
  iintro H; iexists _
  isplitr; swap; · iexact H
  ipureintro
  exact (read_copied (ssM.view.slice (rS k)) (srM.view.slice (rS k)) _ _ _ _).trans hf

theorem wp_fetch {α : Type} (cont : PUnit → Prog (Kp F) α) (Q : α → sProp 𝕄) : iprop(records m σ K ∗ slotFree c k.val ∗ toFetch m c k)
    ⊢ iprop((slotBusy c k.val -∗ run c (cont ⟨⟩) Q) -∗ run c (fetch k >>= cont) Q) := by
  unfold fetch slotFree slotBusy toFetch xPt any
  simp only [run, Prog.lift, Prog.bind_op, Prog.bind_ret, ← par_eq]
  iintro ⟨#HR, ⟨Hat, Hre, ⟨%f, Hb⟩⟩, Hx, Ht⟩ Hk
  have hd := mem_duties (F := F) m σ (g := dmaC c (semB (par k))) (r := k.val / 2) rfl (due_B (by omega))
  iapply (Rounds.wp_copy_pointsTo 𝒱₀ ER (sched m σ) (c : Thread nD τ) none (κ := K (c, cix (semB (par k)))) (r := k.val / 2) (d := ())
      hd () NB (credit_B _) (amt_B (par k)) (pay_fetch m σ c k f)) $$ [Hb Hx Ht Hre]
  · isplitr; · iapply (inv_dma m σ K c (semB (par k)) (two_B _)); iexact HR
    isplitl [Hx]; · iexact Hx
    isplitl [Hb]; · iexact Hb
    isplitl [Ht]; · iexact Ht
    iexact Hre
  iintro Hc
  iapply Hk
  isplitl [Hc]; · iexact Hc
  iexact Hat

/-- Chunk `k` quantised, the send rows then holding its values and scales. -/
def qsAt (c : Dev nD) (k : Fin 16) (w : Vec F S1x128x1024 .i8) : sProp 𝕄 :=
  iprop(∃ f : Buf (Elt F) (qsM.view.loc (c : Thread nD τ)), ⌜qsM.view.readAt (Elt F) (rQ k).toLoadRect f = w⌝ ∗ pt c (qsRow k) f)
def ssAt (c : Dev nD) (k : Fin 16) (w : Vec F S1x128 .f32) : sProp 𝕄 :=
  iprop(∃ f : Buf (Elt F) (ssM.view.loc (c : Thread nD τ)), ⌜ssM.view.readAt (Elt F) (rS k).toLoadRect f = w⌝ ∗ pt c (ssRow k) f)

theorem need_B : 0 + (bRow (par k)).view.dmaCredit = (sched m σ).expect (dmaC c (semB (par k))) (k.val / 2) := by
  rw [Nat.zero_add, expect_of m σ rfl (due_B (by omega)), amt_B]
theorem got_B : bigSep ((sched (F := F) m σ).duties (dmaC c (semB (par k))) (k.val / 2) \ ∅)
    (fun d => (sched (F := F) m σ).payload (dmaC c (semB (par k))) (k.val / 2) d) = iprop(bAt c (par k) (chunk m c k) ∗ xPt m c k) :=
  (rest_of m σ (g := dmaC c (semB (par k))) rfl (due_B (by omega))).trans (pay_B m σ c k)

/-- The wait for the chunk fetched into its slot. -/
theorem wp_waitIn (n : ℕ) (h1 : (xRow k).view.WordExact) (h3 : (bRow (par k)).view.WordExact) {α : Type} (cont : PUnit → Prog (Kp F) α) (Q : α → sProp 𝕄) :
    iprop(records m σ K ∗ levAts L lv ∗ slotBusy c k.val ∗ owing c (owedQ σ c n))
    ⊢ iprop(((atPos ER (dmaC c (semB (par k))) (k.val / 2 + 1) ∅ 0 ∗ reached ER (dmaC c (semB (par k))) (k.val / 2 + 1)
        ∗ bAt c (par k) (chunk m c k) ∗ xPt m c k ∗ owing c (owedQ σ c n))
        -∗ run c (cont ⟨⟩) Q) -∗ run c (.op (.waitDma2 (semB (par k)) (xRow k) (bRow (par k)) h1 h3) cont) Q) := by
  unfold slotBusy owing
  simp only [run, ← par_eq]
  rw [← credit_B (par k)]
  iintro ⟨#HR, #HL, ⟨Hc, Hat⟩, ⟨%W, HO⟩⟩ Hk
  have h8 : k.val / 2 < 8 := by omega
  iapply (Rounds.wp_wait_rest_token 𝒱₀ ER (sched m σ) (c : Thread nD τ) none (κ := K (c, cix (semB (par k))))
      (wpE_waitDma2_eq 𝒱₀ (c : Thread nD τ) none Set.univ) (Set.mem_univ _) () (O := owedQ σ c n) (W := W) (R := k.val / 2) (m := 0) (T := ∅)
      (need_B m σ c k)) $$ [Hc HO Hat]
  · isplitr; · iapply (inv_dma m σ K c (semB (par k)) (two_B _)); iexact HR
    isplitl [Hc]; · iexact Hc
    isplitl [HO]; · iexact HO
    isplitr; · iapply (mayWait_B σ c (par k) n); iexact HL
    iexact Hat
  iintro ⟨HO, Hat, Hre, Hp⟩
  ihave Hp := (Entails.of_eq (got_B m σ c k)) $$ Hp
  icases Hp with ⟨Hb, Hx⟩
  iapply Hk
  isplitl [Hat]; · iexact Hat
  isplitl [Hre]; · iexact Hre
  isplitl [Hb]; · iexact Hb
  isplitl [Hx]; · iexact Hx
  iexists _; iexact HO

theorem sub_B (b : Fin 2) : bM.view.setOn (rB b).toLoadRect.set ⊆ (bRow b).view.set := load_sub bM (rB b) _ _ _
theorem sub_QS : qsM.view.setOn (rQ k).toLoadRect.set ⊆ (qsRow k).view.set := load_sub qsM (rQ k) _ _ _
theorem sub_SS : ssM.view.setOn (rS k).toLoadRect.set ⊆ (ssRow k).view.set := load_sub ssM (rS k) _ _ _
theorem sub_QR : qrM.view.setOn (rQ k).toLoadRect.set ⊆ (qrRow k).view.set := load_sub qrM (rQ k) _ _ _
theorem sub_SR : srM.view.setOn (rS k).toLoadRect.set ⊆ (srRow k).view.set := load_sub srM (rS k) _ _ _
theorem sub_stQS : (qsM.access (rQ k)).setOn (Finset.univ : Finset (rQ k).shape.Idx) ⊆ (qsRow k).view.set :=
  store_sub qsM (rQ k) _ _ _
theorem sub_stSS : (ssM.access (rS k)).setOn (Finset.univ : Finset (rS k).shape.Idx) ⊆ (ssRow k).view.set := store_sub ssM (rS k) (fun _ => rfl) S128 squeezes_S1x128_S128

/-- The chunk read from its slot, its values and scales stored in the send rows. -/
theorem wp_quantRows (w : Vec F S1x128x1024 .f32) {α : Type} (cont : PUnit → Prog (Kp F) α) (Q : α → sProp 𝕄) :
    iprop(bAt c (par k) w ∗ any c (qsRow k) ∗ any c (ssRow k))
    ⊢ iprop(((any c (bRow (par k)) ∗ qsAt c k (k0_pay4 w) ∗ ssAt c k (k0_pay5 w))
        -∗ run c (cont ⟨⟩) Q) -∗ run c (quantRows k >>= cont) Q) := by
  unfold any bAt quantRows
  simp only [run, Prog.lift, Prog.bind_op, Prog.bind_ret]
  iintro ⟨⟨%fb, %hb, Hb⟩, ⟨%fq, Hq⟩, ⟨%fs, Hs⟩⟩ Hk
  iapply (wp_load 𝒱₀ (c : Thread nD τ) none Set.univ (m := bM) (sub_B (par k))) $$ Hb; iintro Hb
  subst hb
  iapply (wp_load 𝒱₀ (c : Thread nD τ) none Set.univ (m := qsM) (sub_QS k)) $$ Hq; iintro Hq
  iapply (wp_store 𝒱₀ (c : Thread nD τ) none Set.univ (m := qsM) (r := rQ k) (Mk := Finset.univ) (sub_stQS k)) $$ Hq; iintro Hq
  iapply (wp_load 𝒱₀ (c : Thread nD τ) none Set.univ (m := ssM) (sub_SS k)) $$ Hs; iintro Hs
  iapply (wp_store 𝒱₀ (c : Thread nD τ) none Set.univ (m := ssM) (r := rS k) (Mk := Finset.univ) (sub_stSS k)) $$ Hs; iintro Hs
  iapply Hk
  isplitl [Hb]
  · iexists _; iexact Hb
  unfold qsAt ssAt
  isplitl [Hq]
  · iexists _
    isplitr; swap; · iexact Hq
    ipureintro; exact View.read_write_univ (v := qsM.view.slice (rQ k)) _ _
  iexists _
  isplitr; swap; · iexact Hs
  ipureintro; exact View.read_write_univ (v := ssM.view.slice (rS k)) _ _

theorem wp_quant (n : ℕ) {α : Type} (cont : PUnit → Prog (Kp F) α) (Q : α → sProp 𝕄) :
    iprop(records m σ K ∗ levAts L lv ∗ slotBusy c k.val ∗ owing c (owedQ σ c n) ∗ any c (qsRow k) ∗ any c (ssRow k))
    ⊢ iprop(((slotFree c (k.val + 2) ∗ xPt m c k ∗ owing c (owedQ σ c n) ∗ qsAt c k (k0_pay4 (chunk m c k)) ∗ ssAt c k (k0_pay5 (chunk m c k)))
        -∗ run c (cont ⟨⟩) Q) -∗ run c (quant k >>= cont) Q) := by
  rw [slotFree_next]
  unfold quant
  simp only [Prog.lift, Prog.bind_op, Prog.bind_ret, ← par_eq]
  iintro ⟨#HR, #HL, Hb, HO, Hq, Hs⟩ Hk
  iapply (wp_waitIn m σ K c k n _ _ (fun _ => quantRows k >>= cont) Q) $$ [Hb HO]
  · isplitr; · iexact HR
    isplitr; · iexact HL
    isplitl [Hb] <;> iassumption
  iintro ⟨Hat, Hre, Hb, Hx, HO⟩
  iapply (wp_quantRows c k (chunk m c k) cont Q) $$ [Hb Hq Hs]
  · isplitl [Hb]; · iexact Hb
    isplitl [Hq] <;> iassumption
  iintro ⟨Hb, Hq, Hs⟩
  iapply Hk
  isplitl [Hat Hre Hb]
  · isplitl [Hat]; · iexact Hat
    isplitl [Hre] <;> iassumption
  isplitl [Hx]; · iexact Hx
  isplitl [HO]; · iexact HO
  isplitl [Hq] <;> iassumption

/-- Row `k` of the send buffers sent to `n`, the destination `dst σ c`. -/
theorem wp_sendRow (n : Dev nD) (hn : n = dst σ c) (r : ℕ) (hr : r + k.val = 15) {α : Type} (cont : PUnit → Prog (Kp F) α) (Q : α → sProp 𝕄) :
    iprop(records m σ K ∗ owing c (owedQ σ c (r + 1)) ∗ qsAt c k (k0_pay4 (chunk m c k)) ∗ ssAt c k (k0_pay5 (chunk m c k))
        ∗ any (dst σ c) (qrRow k) ∗ any (dst σ c) (srRow k)
        ∗ dutyTok ER (dmaC c (semQS k)) 0 () ∗ dutyTok ER (dmaC (dst σ c) (semQR k)) 0 ()
        ∗ dutyTok ER (dmaC c (semSS k)) 0 () ∗ dutyTok ER (dmaC (dst σ c) (semSR k)) 0 ())
    ⊢ iprop(((sent c k ∗ owing c (owedQ σ c r)) -∗ run c (cont ⟨⟩) Q) -∗ run c (send n k >>= cont) Q) := by
  subst hn
  have hk : i16 (15 - r) = k := Fin.ext (by show (15 - r) % 16 = k.val; omega)
  unfold send owing any qsAt ssAt sent
  simp only [run, Prog.lift, Prog.bind_op, Prog.bind_ret]
  iintro ⟨#HR, ⟨%W, HO⟩, ⟨%fq, %hq, Hq⟩, ⟨%fs, %hs, Hs⟩, ⟨%gq, Gq⟩, ⟨%gs, Gs⟩, T1, T2, T3, T4⟩ Hk
  iapply (Rounds.wp_send_pointsTo 𝒱₀ ER (sched m σ) (c : Thread nD τ) none (c' := (dst σ c : Thread nD τ)) (src := qsRow k) (dst := qrRow k) (κ₁ := K (c, cix (semQS k))) (κ₂ := K (dst σ c, cix (semQR k)))
      (r₁ := 0) (r₂ := 0) (d₁ := ()) (d₂ := ()) (fs := fq) (fd := gq) (q := fullShare) (W := W)
      (mem_duties m σ rfl (due_QS k)) (mem_duties m σ rfl (due_QR k)) () () NQ (credit_QR k) (amt_QS k) (amt_QR k)
      (owedQ σ c r + tallyAt (dmaC (dst σ c) (semSR k)) () NS) (by rw [← hk])
      (pay_sentQ m σ c k fq) (pay_landedQ m σ c k fq gq hq)) $$ [HO Hq Gq T1 T2]
  · isplitr; · iapply (inv_dma m σ K c (semQS k) (two_QS _)); iexact HR
    isplitr; · iapply (inv_dma m σ K (dst σ c) (semQR k) (two_QR _)); iexact HR
    isplitl [Hq]; · iexact Hq
    isplitl [Gq]; · iexact Gq
    isplitl [HO]; · iexact HO
    isplitl [T1]; · iexact T1
    isplitr; · iapply (reached_dma m σ K c (semQS k) (two_QS _)); iexact HR
    isplitl [T2]; · iexact T2
    iapply (reached_dma m σ K (dst σ c) (semQR k) (two_QR _)); iexact HR
  iintro ⟨C1, HO⟩
  iapply (Rounds.wp_send_pointsTo 𝒱₀ ER (sched m σ) (c : Thread nD τ) none (c' := (dst σ c : Thread nD τ)) (src := ssRow k) (dst := srRow k) (κ₁ := K (c, cix (semSS k))) (κ₂ := K (dst σ c, cix (semSR k)))
      (r₁ := 0) (r₂ := 0) (d₁ := ()) (d₂ := ()) (fs := fs) (fd := gs) (q := fullShare) (W := W)
      (mem_duties m σ rfl (due_SS k)) (mem_duties m σ rfl (due_SR k)) () () NS (credit_SR k) (amt_SS k) (amt_SR k)
      (owedQ σ c r) rfl
      (pay_sentS m σ c k fs) (pay_landedS m σ c k fs gs hs)) $$ [HO Hs Gs T3 T4]
  · isplitr; · iapply (inv_dma m σ K c (semSS k) (two_SS _)); iexact HR
    isplitr; · iapply (inv_dma m σ K (dst σ c) (semSR k) (two_SR _)); iexact HR
    isplitl [Hs]; · iexact Hs
    isplitl [Gs]; · iexact Gs
    isplitl [HO]; · iexact HO
    isplitl [T3]; · iexact T3
    isplitr; · iapply (reached_dma m σ K c (semSS k) (two_SS _)); iexact HR
    isplitl [T4]; · iexact T4
    iapply (reached_dma m σ K (dst σ c) (semSR k) (two_SR _)); iexact HR
  iintro ⟨C2, HO⟩
  iapply Hk
  isplitl [C1 C2]
  · isplitl [C1] <;> iassumption
  iexists W; iexact HO

/-- A wait, owing nothing, on a semaphore with one round: its counter's cell closed, its payload delivered. -/
theorem wp_waitClose (q : DmaSem sig) (N : ℕ) (h2 : 2 ≤ q.val) (hd : due (.dma q) 0) (hn : ∀ r, 1 ≤ r → ¬ due (.dma q) r)
    (hN : amt (.dma q) = N) {sp sp' : Space} {s : Shape} {e : EltTy} (u : Memref sig .tc sp s e) (v : Memref sig .tc sp' s e)
    (hv : v.view.dmaCredit = N) (h1 : u.view.WordExact) (h3 : v.view.WordExact)
    {α : Type} (cont : PUnit → Prog (Kp F) α) (Q : α → sProp 𝕄) :
    iprop(records m σ K ∗ cred (tallyAt (dmaC c q) () N) ∗ owing c 0 ∗ atPos ER (dmaC c q) 0 ∅ 0)
    ⊢ iprop(((owing c 0 ∗ semVal (dmaC c q) 0 ∗ pay m σ c (.dma q) 0) -∗ run c (cont ⟨⟩) Q)
        -∗ run c (.op (.waitDma2 q u v h1 h3) cont) Q) := by
  subst hv
  unfold owing
  iintro ⟨#HR, Hc, ⟨%W, HO⟩, Hat⟩ Hk
  iapply (Rounds.wp_wait_rest_token 𝒱₀ ER (sched m σ) (c : Thread nD τ) none (κ := K (c, cix q))
      (wpE_waitDma2_eq 𝒱₀ (c : Thread nD τ) none Set.univ) (Set.mem_univ _) () (O := 0) (W := W) (R := 0) (m := 0) (T := ∅)
      (by rw [Nat.zero_add, expect_of m σ rfl hd]; exact hN.symm)) $$ [Hc HO Hat]
  · isplitr; · iapply (inv_dma m σ K c q h2); iexact HR
    isplitl [Hc]; · iexact Hc
    isplitl [HO]; · iexact HO
    isplitr; · rw [MayWait_zero]; iempintro
    iexact Hat
  iintro ⟨HO, Hat, -, Hp⟩
  ihave Hp := (Entails.of_eq (rest_of m σ (g := dmaC c q) rfl hd)) $$ Hp
  imod (Rounds.cell_close ER (sched m σ) (Set.mem_univ (K (c, cix q))) (fun h => h) (R := 0 + 1)
    (duties_later m σ (g := dmaC c q) hn)) $$ [Hat] with Hz
  · isplitr; · iapply (inv_dma m σ K c q h2); iexact HR
    iexact Hat
  iapply Hk
  isplitl [HO]; · iexists _; iexact HO
  isplitl [Hz]; · iexact Hz
  iexact Hp

/-- The received rows dequantised and stored. -/
theorem wp_outRows (v : Vec F S1x128x1024 .i8) (w : Vec F S1x128 .f32) (f : Buf (Elt F) ((c : Thread nD τ).loc cc0_stg1_0))
    {α : Type} (cont : PUnit → Prog (Kp F) α) (Q : α → sProp 𝕄) :
    iprop(qrAt c k v ∗ srAt c k w ∗ (((c : Thread nD τ).loc cc0_stg1_0) ↦{fullShare} f))
    ⊢ iprop(((any c (qrRow k) ∗ any c (srRow k)
          ∗ (((c : Thread nD τ).loc cc0_stg1_0) ↦{fullShare} (oM.access (rX k)).write (Elt F) f (k0_pay1 v w) Finset.univ))
        -∗ run c (cont ⟨⟩) Q) -∗ run c (outRows k >>= cont) Q) := by
  unfold any qrAt srAt outRows
  simp only [run, Prog.lift, Prog.bind_op, Prog.bind_ret]
  iintro ⟨⟨%gq, %hq, Gq⟩, ⟨%gs, %hs, Gs⟩, Hf⟩ Hk
  subst hq hs
  iapply (wp_load 𝒱₀ (c : Thread nD τ) none Set.univ (m := qrM) (sub_QR k)) $$ Gq; iintro Gq
  iapply (wp_load 𝒱₀ (c : Thread nD τ) none Set.univ (m := srM) (sub_SR k)) $$ Gs; iintro Gs
  iapply (wp_load 𝒱₀ (c : Thread nD τ) none Set.univ (m := oM) (Finset.subset_univ _)) $$ Hf; iintro Hf
  iapply (wp_store 𝒱₀ (c : Thread nD τ) none Set.univ (m := oM) (r := rX k) (Mk := Finset.univ) (Finset.subset_univ _)) $$ Hf; iintro Hf
  iapply Hk
  isplitl [Gq]; · iexists _; iexact Gq
  isplitl [Gs]; · iexists _; iexact Gs
  iexact Hf

theorem wp_recvRow (f : Buf (Elt F) ((c : Thread nD τ).loc cc0_stg1_0)) {α : Type} (cont : PUnit → Prog (Kp F) α) (Q : α → sProp 𝕄) :
    iprop(records m σ K ∗ owing c 0 ∗ sent c k ∗ toRecv c k ∗ (((c : Thread nD τ).loc cc0_stg1_0) ↦{fullShare} f))
    ⊢ iprop(((recvd c k ∗ owing c 0
          ∗ (((c : Thread nD τ).loc cc0_stg1_0) ↦{fullShare} (oM.access (rX k)).write (Elt F) f (outChunk m σ c k) Finset.univ))
        -∗ run c (cont ⟨⟩) Q) -∗ run c (recvStep k >>= cont) Q) := by
  unfold recvStep sent toRecv
  simp only [run, Prog.lift, Prog.bind_op, Prog.bind_ret]
  iintro ⟨#HR, HO, ⟨C1, C3⟩, ⟨A1, A2, A3, A4, C2, C4⟩, Hf⟩ Hk
  iapply (wp_waitClose m σ K c (semSS k) NS (two_SS k) (due_SS k) (fun r h => not_due_SS k h) (amt_SS k) (srRow k) (ssRow k) (credit_SS k) _ _ _ Q) $$ [HO C3 A3]
  · isplitr; · iexact HR
    isplitl [C3]; · iexact C3
    isplitl [HO] <;> iassumption
  iintro ⟨HO, Z3, P3⟩
  iapply (wp_waitClose m σ K c (semSR k) NS (two_SR k) (due_SR k) (fun r h => not_due_SR k h) (amt_SR k) (ssRow k) (srRow k) (credit_SR k) _ _ _ Q) $$ [HO C4 A4]
  · isplitr; · iexact HR
    isplitl [C4]; · iexact C4
    isplitl [HO] <;> iassumption
  iintro ⟨HO, Z4, P4⟩
  iapply (wp_waitClose m σ K c (semQS k) NQ (two_QS k) (due_QS k) (fun r h => not_due_QS k h) (amt_QS k) (qrRow k) (qsRow k) (credit_QS k) _ _ _ Q) $$ [HO C1 A1]
  · isplitr; · iexact HR
    isplitl [C1]; · iexact C1
    isplitl [HO] <;> iassumption
  iintro ⟨HO, Z1, P1⟩
  iapply (wp_waitClose m σ K c (semQR k) NQ (two_QR k) (due_QR k) (fun r h => not_due_QR k h) (amt_QR k) (qsRow k) (qrRow k) (credit_QR k) _ _ _ Q) $$ [HO C2 A2]
  · isplitr; · iexact HR
    isplitl [C2]; · iexact C2
    isplitl [HO] <;> iassumption
  iintro ⟨HO, Z2, P2⟩
  ihave P1 := (Entails.of_eq (pay_QS m σ c k 0)) $$ P1
  ihave P2 := (Entails.of_eq (pay_QR m σ c k 0)) $$ P2
  ihave P3 := (Entails.of_eq (pay_SS m σ c k 0)) $$ P3
  ihave P4 := (Entails.of_eq (pay_SR m σ c k 0)) $$ P4
  iapply (wp_outRows c k (k0_pay4 (chunk m (dst σ c) k)) (k0_pay5 (chunk m (dst σ c) k)) f cont Q) $$ [P2 P4 Hf]
  · isplitl [P2]; · iexact P2
    isplitl [P4] <;> iassumption
  iintro ⟨Gq, Gs, Hf⟩
  iapply Hk
  unfold recvd outChunk
  isplitl [P1 P3 Gq Gs Z1 Z2 Z3 Z4]
  · isplitl [P1 P3 Gq Gs]
    · isplitl [P1]; · iexact P1
      isplitl [P3]; · iexact P3
      isplitl [Gq] <;> iassumption
    isplitl [Z1]; · iexact Z1
    isplitl [Z2]; · iexact Z2
    isplitl [Z3] <;> iassumption
  isplitl [HO]; · iexact HO
  iexact Hf

end Rules

end Cert.KernelIdeal.Pf
-- ==== Proof.Rows.lean ====
/-
# Buffers as their rows

A buffer held whole is held row by row, and its rows joined back: for each buffer the kernel cuts into rows.
-/
module

public import proofs.«01_k».proof.Proof.Steps
public import Idealize.ShloMosaic.Lib.Ring

@[expose] public section

noncomputable section

namespace Cert.KernelIdeal.Pf

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Ring
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (c : Dev nD)

/-! ## The rows' elements -/

theorem xs_disjoint (k k' : Fin 16) (h : k ≠ k') : Disjoint (rX k).set (rX k').set :=
  lead_disjoint (s := S1x2048x1024) 1 128 (fun k : Fin 16 => ![0, 128 * k.val, 0]) S1x128x1024.size inbX (fun _ => rfl) rfl k k' h
theorem xs_cover : (Finset.univ.biUnion fun k => (rX k).set) = Finset.univ :=
  lead_cover (s := S1x2048x1024) 1 128 (fun k : Fin 16 => ![0, 128 * k.val, 0]) S1x128x1024.size inbX (fun _ => rfl)
    (by decide) rfl (by decide) rfl
theorem bs_disjoint (k k' : Fin 2) (h : k ≠ k') : Disjoint (rB k).set (rB k').set :=
  lead_disjoint (s := S2x128x1024) 0 1 (fun k : Fin 2 => ![k.val, 0, 0]) S1x128x1024.size inbB (fun b => (Nat.one_mul _).symm) rfl k k' h
theorem bs_cover : (Finset.univ.biUnion fun k => (rB k).set) = Finset.univ :=
  lead_cover (s := S2x128x1024) 0 1 (fun k : Fin 2 => ![k.val, 0, 0]) S1x128x1024.size inbB (fun b => (Nat.one_mul _).symm)
    (by decide) rfl (by decide) rfl
theorem qs_disjoint (k k' : Fin 16) (h : k ≠ k') : Disjoint (rQ k).set (rQ k').set :=
  lead_disjoint (s := S16x128x1024) 0 1 (fun k : Fin 16 => ![k.val, 0, 0]) S1x128x1024.size inbQ (fun b => (Nat.one_mul _).symm) rfl k k' h
theorem qs_cover : (Finset.univ.biUnion fun k => (rQ k).set) = Finset.univ :=
  lead_cover (s := S16x128x1024) 0 1 (fun k : Fin 16 => ![k.val, 0, 0]) S1x128x1024.size inbQ (fun b => (Nat.one_mul _).symm)
    (by decide) rfl (by decide) rfl
theorem ss_disjoint (k k' : Fin 16) (h : k ≠ k') : Disjoint (rS k).set (rS k').set :=
  lead_disjoint (s := S16x128) 0 1 (fun k : Fin 16 => ![k.val, 0]) S1x128.size inbS (fun b => (Nat.one_mul _).symm) rfl k k' h
theorem ss_cover : (Finset.univ.biUnion fun k => (rS k).set) = Finset.univ :=
  lead_cover (s := S16x128) 0 1 (fun k : Fin 16 => ![k.val, 0]) S1x128.size inbS (fun b => (Nat.one_mul _).symm)
    (by decide) rfl (by decide) rfl

theorem set_x (k : Fin 16) : (xRow k).view.set = (rX k).set := (set_row xM (rX k) _ _ _).trans (View.set_slice_whole _ _)
theorem set_b (b : Fin 2) : (bRow b).view.set = (rB b).set := (set_row bM (rB b) _ _ _).trans (View.set_slice_whole _ _)
theorem set_qs (k : Fin 16) : (qsRow k).view.set = (rQ k).set := (set_row qsM (rQ k) _ _ _).trans (View.set_slice_whole _ _)
theorem set_qr (k : Fin 16) : (qrRow k).view.set = (rQ k).set := (set_row qrM (rQ k) _ _ _).trans (View.set_slice_whole _ _)
theorem set_ss (k : Fin 16) : (ssRow k).view.set = (rS k).set := (set_row ssM (rS k) _ _ _).trans (View.set_slice_whole _ _)
theorem set_sr (k : Fin 16) : (srRow k).view.set = (rS k).set := (set_row srM (rS k) _ _ _).trans (View.set_slice_whole _ _)

/-! ## Split and join -/

section Generic
variable {n : ℕ} {ℓ : Loc nD τ sig} (I : Fin n → Finset (Idx ℓ)) (hd : ∀ b b', b ≠ b' → Disjoint (I b) (I b'))
  (hc : Finset.univ.biUnion I = Finset.univ)

include hd hc in
theorem split_rows (P : Fin n → sProp 𝕄) (hP : ∀ b, (iprop(∃ f : Buf (Elt F) ℓ, ℓ ↦[I b]{fullShare} f) : sProp 𝕄) = P b) :
    (iprop(∃ f : Buf (Elt F) ℓ, ℓ ↦{fullShare} f) : sProp 𝕄) ⊢ bigSep Finset.univ P := by
  iintro ⟨%f, H⟩
  ihave H := (Entails.of_eq (pointsTo_blocks I hd hc f)) $$ H
  iapply (show (bigSep Finset.univ fun b => ℓ ↦[I b]{fullShare} f : sProp 𝕄) ⊢ bigSep Finset.univ P from
    bigSep_mono fun b _ => by
      rw [← hP b]
      show iprop(ℓ ↦[I b]{fullShare} f) ⊢ iprop(∃ f, ℓ ↦[I b]{fullShare} f)
      iintro H; iexists f; iexact H)
  iexact H

include hd hc in
theorem join_rows (P : Fin n → sProp 𝕄) (f₀ : Buf (Elt F) ℓ) (hP : ∀ b, (iprop(∃ f : Buf (Elt F) ℓ, ℓ ↦[I b]{fullShare} f) : sProp 𝕄) = P b) :
    bigSep Finset.univ P ⊢ (iprop(∃ f : Buf (Elt F) ℓ, ℓ ↦{fullShare} f) : sProp 𝕄) := by
  rw [show P = fun b => iprop(∃ f, ℓ ↦[I b]{fullShare} f) from funext fun b => (hP b).symm]
  exact pointsTo_blocks_join_exists I hd hc f₀
end Generic

theorem any_b (b : Fin 2) : (iprop(∃ f, (c : Thread nD τ).loc cc0_scratch0 ↦[(rB b).set]{fullShare} f) : sProp 𝕄) = any c (bRow b) :=
  congrArg (fun S => (iprop(∃ f, (c : Thread nD τ).loc cc0_scratch0 ↦[S]{fullShare} f) : sProp 𝕄)) (set_b b).symm
theorem any_qs (k : Fin 16) : (iprop(∃ f, (c : Thread nD τ).loc cc0_scratch1 ↦[(rQ k).set]{fullShare} f) : sProp 𝕄) = any c (qsRow k) :=
  congrArg (fun S => (iprop(∃ f, (c : Thread nD τ).loc cc0_scratch1 ↦[S]{fullShare} f) : sProp 𝕄)) (set_qs k).symm
theorem any_ss (k : Fin 16) : (iprop(∃ f, (c : Thread nD τ).loc cc0_scratch2 ↦[(rS k).set]{fullShare} f) : sProp 𝕄) = any c (ssRow k) :=
  congrArg (fun S => (iprop(∃ f, (c : Thread nD τ).loc cc0_scratch2 ↦[S]{fullShare} f) : sProp 𝕄)) (set_ss k).symm
theorem any_qr (k : Fin 16) : (iprop(∃ f, (c : Thread nD τ).loc cc0_scratch3 ↦[(rQ k).set]{fullShare} f) : sProp 𝕄) = any c (qrRow k) :=
  congrArg (fun S => (iprop(∃ f, (c : Thread nD τ).loc cc0_scratch3 ↦[S]{fullShare} f) : sProp 𝕄)) (set_qr k).symm
theorem any_sr (k : Fin 16) : (iprop(∃ f, (c : Thread nD τ).loc cc0_scratch4 ↦[(rS k).set]{fullShare} f) : sProp 𝕄) = any c (srRow k) :=
  congrArg (fun S => (iprop(∃ f, (c : Thread nD τ).loc cc0_scratch4 ↦[S]{fullShare} f) : sProp 𝕄)) (set_sr k).symm

/-- A scratch buffer at some contents. -/
abbrev held (b : Ref sig .tc) : sProp 𝕄 := iprop(∃ f, (c : Thread nD τ).loc b ↦{fullShare} f)

theorem bigSep_two (Φ : Fin 2 → sProp 𝕄) : bigSep Finset.univ Φ = iprop(Φ 0 ∗ Φ 1) := bigSep_univ_eq_bigSepL [0, 1] (by decide) (by decide) Φ

theorem split_b : held (F := F) c cc0_scratch0 ⊢ iprop(any c (bRow 0) ∗ any c (bRow 1)) := by
  rw [← bigSep_two (fun b => any c (bRow b))]; exact split_rows (ℓ := (c : Thread nD τ).loc cc0_scratch0) (fun b => (rB b).set) bs_disjoint bs_cover _ (any_b c)
include m in
theorem join_b : iprop(any c (bRow 0) ∗ any c (bRow 1)) ⊢ held (F := F) c cc0_scratch0 := by
  rw [← bigSep_two (fun b => any c (bRow b))]; exact join_rows (ℓ := (c : Thread nD τ).loc cc0_scratch0) (fun b => (rB b).set) bs_disjoint bs_cover _ (m _) (any_b c)
theorem split_qs : held (F := F) c cc0_scratch1 ⊢ bigSep Finset.univ fun k => any c (qsRow k) :=
  split_rows (ℓ := (c : Thread nD τ).loc cc0_scratch1) (fun b => (rQ b).set) qs_disjoint qs_cover _ (any_qs c)
include m in
theorem join_qs : (bigSep Finset.univ fun k => any c (qsRow k)) ⊢ held (F := F) c cc0_scratch1 :=
  join_rows (ℓ := (c : Thread nD τ).loc cc0_scratch1) (fun b => (rQ b).set) qs_disjoint qs_cover _ (m _) (any_qs c)
theorem split_ss : held (F := F) c cc0_scratch2 ⊢ bigSep Finset.univ fun k => any c (ssRow k) :=
  split_rows (ℓ := (c : Thread nD τ).loc cc0_scratch2) (fun b => (rS b).set) ss_disjoint ss_cover _ (any_ss c)
include m in
theorem join_ss : (bigSep Finset.univ fun k => any c (ssRow k)) ⊢ held (F := F) c cc0_scratch2 :=
  join_rows (ℓ := (c : Thread nD τ).loc cc0_scratch2) (fun b => (rS b).set) ss_disjoint ss_cover _ (m _) (any_ss c)
theorem split_qr : held (F := F) c cc0_scratch3 ⊢ bigSep Finset.univ fun k => any c (qrRow k) :=
  split_rows (ℓ := (c : Thread nD τ).loc cc0_scratch3) (fun b => (rQ b).set) qs_disjoint qs_cover _ (any_qr c)
include m in
theorem join_qr : (bigSep Finset.univ fun k => any c (qrRow k)) ⊢ held (F := F) c cc0_scratch3 :=
  join_rows (ℓ := (c : Thread nD τ).loc cc0_scratch3) (fun b => (rQ b).set) qs_disjoint qs_cover _ (m _) (any_qr c)
theorem split_sr : held (F := F) c cc0_scratch4 ⊢ bigSep Finset.univ fun k => any c (srRow k) :=
  split_rows (ℓ := (c : Thread nD τ).loc cc0_scratch4) (fun b => (rS b).set) ss_disjoint ss_cover _ (any_sr c)
include m in
theorem join_sr : (bigSep Finset.univ fun k => any c (srRow k)) ⊢ held (F := F) c cc0_scratch4 :=
  join_rows (ℓ := (c : Thread nD τ).loc cc0_scratch4) (fun b => (rS b).set) ss_disjoint ss_cover _ (m _) (any_sr c)

/-- The device's block of `x` is its chunks. -/
theorem x_rows : ((c : Thread nD τ).loc main_arg0 ↦{fullShare} m ((c : Thread nD τ).loc main_arg0) : sProp 𝕄) = bigSep Finset.univ (xPt m c) :=
  (pointsTo_blocks (fun k => (rX k).set) xs_disjoint xs_cover _).trans (bigSep_congr fun k _ =>
    congrArg (fun S => ((c : Thread nD τ).loc main_arg0 ↦[S]{fullShare} m ((c : Thread nD τ).loc main_arg0) : sProp 𝕄)) (set_x k).symm)

/-! ## The result, chunk by chunk -/

theorem out_set (k : Fin 16) : (oM.access (rX k)).set = (rX k).set := View.set_slice_whole _ _

/-- Two chunks of the result share no element. -/
theorem out_disjoint {j k : Fin 16} (h : j ≠ k) : Disjoint (oM.access (rX j)).set ((oM.access (rX k)).setOn Finset.univ) := by
  have e : (oM.access (rX k)).setOn Finset.univ = (rX k).set := out_set k
  rw [out_set, e]; exact xs_disjoint j k h

end Cert.KernelIdeal.Pf
-- ==== Proof.Loops.lean ====
/-
# The two loops

The loop of sends and the loop of receives: what holds before step `k`, and that each step carries it to the next.
-/
module

public import proofs.«01_k».proof.Proof.Rows

@[expose] public section

noncomputable section

namespace Cert.KernelIdeal.Pf

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (σ : Bool) (K : Dev nD × Fin 67 → ℕ) (c : Dev nD)

/-- One term of a family taken out, and another put back in its place. -/
theorem bigSep_swap {Φ Ψ : Fin 16 → sProp 𝕄} (k : Fin 16) (h : ∀ j, j ≠ k → Φ j = Ψ j) :
    bigSep Finset.univ Φ ⊢ iprop(Φ k ∗ (Ψ k -∗ bigSep Finset.univ Ψ)) := by
  have hΦ : bigSep Finset.univ Φ = iprop(Φ k ∗ bigSep (Finset.univ.erase k) Φ) := BI.bigSep_univ_split k
  have hΨ : bigSep Finset.univ Ψ = iprop(Ψ k ∗ bigSep (Finset.univ.erase k) Ψ) := BI.bigSep_univ_split k
  have he : bigSep (Finset.univ.erase k) Φ = bigSep (Finset.univ.erase k) Ψ := bigSep_congr fun j hj => h j (Finset.ne_of_mem_erase hj)
  rw [hΦ, hΨ, he]
  iintro ⟨H, HR⟩
  isplitl [H]; · iexact H
  iintro H
  isplitl [H] <;> iassumption

/-- A loop's rule from its step's. -/
theorem wp_loop (R : sProp 𝕄) [BI.Persistent R] (Inv : ℕ → sProp 𝕄) (step : Fin 16 → Prog (Kp F) PUnit)
    (hstep : ∀ (k : Fin 16) {α : Type} (cont : PUnit → Prog (Kp F) α) (Q : α → sProp 𝕄),
      iprop(R ∗ Inv k.val) ⊢ iprop((Inv (k.val + 1) -∗ run c (cont ⟨⟩) Q) -∗ run c (step k >>= cont) Q))
    {α : Type} (cont : PUnit → Prog (Kp F) α) (Q : α → sProp 𝕄) :
    ∀ (n k : ℕ) (h : n + k = 16), iprop(R ∗ Inv k) ⊢ iprop((Inv 16 -∗ run c (cont ⟨⟩) Q) -∗ run c (loop step n k h >>= cont) Q)
  | 0, k, h => by
    obtain rfl : k = 16 := by omega
    iintro ⟨-, H⟩ Hk
    iapply Hk
    iexact H
  | n + 1, k, h => by
    have ih := wp_loop R Inv step hstep cont Q n (k + 1) (by omega)
    have hs := hstep ⟨k, by omega⟩ (fun _ => loop step n (k + 1) (by omega) >>= cont) Q
    have e : (loop step (n + 1) k h >>= cont) = (step ⟨k, by omega⟩ >>= fun _ => loop step n (k + 1) (by omega) >>= cont) :=
      Prog.bind_assoc _ _ _
    rw [e]
    iintro ⟨#HR, H⟩ Hk
    iapply hs $$ [H]
    · isplitr; · iexact HR
      iexact H
    iintro H
    iapply ih $$ [H]
    · isplitr; · iexact HR
      iexact H
    iexact Hk

/-! ## The loop of sends -/

/-- The chunks of `x` with the first `a` back and the fetches before `b` started. -/
def xs (a b : ℕ) (j : Fin 16) : sProp 𝕄 := if j.val < a then xPt m c j else if j.val < b then iprop(emp) else toFetch m c j

/-- The chunks with the first `k` sent. -/
def sends (k : ℕ) (j : Fin 16) : sProp 𝕄 := if j.val < k then sent c j else toSend σ c j

/-- The fetch slots before step `k`. -/
def slots (k : ℕ) : sProp 𝕄 := if k < 16 then iprop(slotBusy c k ∗ slotFree c (k + 1)) else iprop(slotFree c k ∗ slotFree c (k + 1))

/-- What holds before step `k` of the sends. -/
def sendInv (k : ℕ) : sProp 𝕄 :=
  iprop(bigSep Finset.univ (sends σ c k) ∗ bigSep Finset.univ (xs m c k (k + 1)) ∗ slots c k ∗ owing c (owedQ σ c (16 - k)))

theorem wp_fetchNext (k : Fin 16) {α : Type} (cont : PUnit → Prog (Kp F) α) (Q : α → sProp 𝕄) :
    iprop(records m σ K ∗ bigSep Finset.univ (xs m c k.val (k.val + 1)) ∗ slotFree c (k.val + 1))
    ⊢ iprop(((bigSep Finset.univ (xs m c k.val (k.val + 2)) ∗ if k.val + 1 < 16 then slotBusy c (k.val + 1) else slotFree c (k.val + 1))
        -∗ run c (cont ⟨⟩) Q) -∗ run c (fetchNext k >>= cont) Q) := by
  unfold fetchNext
  by_cases h : k.val + 1 < 16
  · rw [dif_pos h, if_pos h]
    have hsw := bigSep_swap (Φ := xs m c k.val (k.val + 1)) (Ψ := xs m c k.val (k.val + 2)) ⟨k.val + 1, h⟩ fun j hj => by
      have hj' : j.val ≠ k.val + 1 := fun e => hj (Fin.ext e)
      unfold xs
      by_cases h1 : j.val < k.val
      · rw [if_pos h1, if_pos h1]
      · rw [if_neg h1, if_neg h1]
        by_cases h2 : j.val < k.val + 1
        · rw [if_pos h2, if_pos (by omega)]
        · rw [if_neg h2, if_neg (by omega)]
    have e1 : xs (F := F) m c k.val (k.val + 1) ⟨k.val + 1, h⟩ = toFetch m c ⟨k.val + 1, h⟩ := by
      unfold xs; rw [if_neg (by show ¬ k.val + 1 < k.val; omega), if_neg (by show ¬ k.val + 1 < k.val + 1; omega)]
    have e2 : xs (F := F) m c k.val (k.val + 2) ⟨k.val + 1, h⟩ = iprop(emp) := by
      unfold xs; rw [if_neg (by show ¬ k.val + 1 < k.val; omega), if_pos (by show k.val + 1 < k.val + 2; omega)]
    rw [e1, e2] at hsw
    iintro ⟨#HR, HX, Hs⟩ Hk
    ihave HX := hsw $$ HX
    icases HX with ⟨Hf, HX⟩
    iapply (wp_fetch m σ K c ⟨k.val + 1, h⟩ cont Q) $$ [Hf Hs]
    · isplitr; · iexact HR
      isplitl [Hs]; · iexact Hs
      iexact Hf
    iintro Hb
    iapply Hk
    isplitl [HX]
    · iapply HX; iempintro
    iexact Hb
  · rw [dif_neg h, if_neg h]
    have e : xs (F := F) m c k.val (k.val + 1) = xs m c k.val (k.val + 2) := funext fun j => by
      unfold xs
      by_cases h1 : j.val < k.val
      · rw [if_pos h1, if_pos h1]
      · rw [if_neg h1, if_neg h1, if_pos (by omega), if_pos (by omega)]
    rw [e]
    iintro ⟨-, HX, Hs⟩ Hk
    iapply Hk
    isplitl [HX] <;> iassumption

theorem wp_sendStep (n : Dev nD) (hn : n = dst σ c) (k : Fin 16) {α : Type} (cont : PUnit → Prog (Kp F) α) (Q : α → sProp 𝕄) :
    iprop((records m σ K ∗ levAts L lv) ∗ sendInv m σ c k.val)
    ⊢ iprop((sendInv m σ c (k.val + 1) -∗ run c (cont ⟨⟩) Q) -∗ run c (sendStep n k >>= cont) Q) := by
  have hS := bigSep_swap (Φ := sends (F := F) σ c k.val) (Ψ := sends σ c (k.val + 1)) k fun j hj => by
    have hj' : j.val ≠ k.val := fun e => hj (Fin.ext e)
    unfold sends
    by_cases h1 : j.val < k.val
    · rw [if_pos h1, if_pos (by omega)]
    · rw [if_neg h1, if_neg (by omega)]
  have s1 : sends (F := F) σ c k.val k = toSend σ c k := if_neg (lt_irrefl _)
  have s2 : sends (F := F) σ c (k.val + 1) k = sent c k := if_pos (Nat.lt_succ_self _)
  have hX := bigSep_swap (Φ := xs m c k.val (k.val + 2)) (Ψ := xs m c (k.val + 1) (k.val + 2)) k fun j hj => by
    have hj' : j.val ≠ k.val := fun e => hj (Fin.ext e)
    unfold xs
    by_cases h1 : j.val < k.val
    · rw [if_pos h1, if_pos (by omega)]
    · rw [if_neg h1, if_neg (show ¬ j.val < k.val + 1 by omega)]
  have x1 : xs (F := F) m c k.val (k.val + 2) k = iprop(emp) := by
    unfold xs; rw [if_neg (lt_irrefl _), if_pos (by omega)]
  have x2 : xs (F := F) m c (k.val + 1) (k.val + 2) k = xPt m c k := if_pos (Nat.lt_succ_self _)
  have hO : owedQ σ c (16 - k.val) = owedQ σ c (15 - k.val + 1) := by congr 1; omega
  have hO' : owedQ σ c (16 - (k.val + 1)) = owedQ σ c (15 - k.val) := by congr 1; omega
  have t1 : slots (F := F) c k.val = iprop(slotBusy c k.val ∗ slotFree c (k.val + 1)) := if_pos k.isLt
  have t2 : iprop((if k.val + 1 < 16 then slotBusy (F := F) c (k.val + 1) else slotFree c (k.val + 1)) ∗ slotFree c (k.val + 2)) = slots (F := F) c (k.val + 1) := by
    unfold slots; by_cases h : k.val + 1 < 16
    · rw [if_pos h, if_pos h]
    · rw [if_neg h, if_neg h]
  rw [s1, s2] at hS
  rw [x1, x2] at hX
  unfold sendInv sendStep
  rw [t1, hO, hO', ← t2]
  simp only [Prog.bind_assoc]
  unfold toSend at hS
  iintro ⟨⟨#HR, #HL⟩, HS, HX, ⟨Hb, Hf⟩, HO⟩ Hk
  iapply (wp_fetchNext m σ K c k (fun _ => quant k >>= fun _ => send n k >>= cont) Q) $$ [HX Hf]
  · isplitr; · iexact HR
    isplitl [HX] <;> iassumption
  iintro ⟨HX, Hf⟩
  ihave HS := hS $$ HS
  icases HS with ⟨⟨Hq, Hs, Gq, Gs, T1, T2, T3, T4⟩, HS⟩
  ihave HX := hX $$ HX
  icases HX with ⟨-, HX⟩
  iapply (wp_quant m σ K c k (15 - k.val + 1) (fun _ => send n k >>= cont) Q) $$ [Hb HO Hq Hs]
  · isplitr; · iexact HR
    isplitr; · iexact HL
    isplitl [Hb]; · iexact Hb
    isplitl [HO]; · iexact HO
    isplitl [Hq] <;> iassumption
  iintro ⟨Hb, Hx, HO, Hq, Hs⟩
  iapply (wp_sendRow m σ K c k n hn (15 - k.val) (by omega) cont Q) $$ [HO Hq Hs Gq Gs T1 T2 T3 T4]
  · isplitr; · iexact HR
    isplitl [HO]; · iexact HO
    isplitl [Hq]; · iexact Hq
    isplitl [Hs]; · iexact Hs
    isplitl [Gq]; · iexact Gq
    isplitl [Gs]; · iexact Gs
    isplitl [T1]; · iexact T1
    isplitl [T2]; · iexact T2
    isplitl [T3] <;> iassumption
  iintro ⟨Hn, HO⟩
  iapply Hk
  isplitl [HS Hn]
  · iapply HS; iexact Hn
  isplitl [HX Hx]
  · iapply HX; iexact Hx
  isplitl [Hf Hb]
  · isplitl [Hf] <;> iassumption
  iexact HO

/-! ## The loop of receives -/

/-- The chunks with the first `k` received. -/
def recvs (k : ℕ) (j : Fin 16) : sProp 𝕄 := if j.val < k then recvd c j else iprop(sent c j ∗ toRecv c j)

/-- The result's buffer with its first `k` chunks stored. -/
def outTo (k : ℕ) (f : Buf (Elt F) ((c : Thread nD τ).loc cc0_stg1_0)) : Prop :=
  ∀ j : Fin 16, j.val < k → (oM.access (rX j)).read (Elt F) f = outChunk m σ c j

/-- What holds before step `k` of the receives. -/
def recvInv (k : ℕ) : sProp 𝕄 :=
  iprop(bigSep Finset.univ (recvs c k) ∗ owing c 0
    ∗ ∃ f : Buf (Elt F) ((c : Thread nD τ).loc cc0_stg1_0), ⌜outTo m σ c k f⌝ ∗ (((c : Thread nD τ).loc cc0_stg1_0) ↦{fullShare} f))

theorem outTo_step (k : Fin 16) (f : Buf (Elt F) ((c : Thread nD τ).loc cc0_stg1_0)) (hf : outTo m σ c k.val f) :
    outTo m σ c (k.val + 1) ((oM.access (rX k)).write (Elt F) f (outChunk m σ c k) Finset.univ) := fun j hj => by
  by_cases h : j = k
  · subst h; exact View.read_write_univ (v := oM.access (rX j)) _ _
  · exact (View.read_slice_write_slice_of_disjoint (v := oM.view) (rX j) (rX k) f _ _ (out_disjoint h)).trans
      (hf j (by have : j.val ≠ k.val := fun e => h (Fin.ext e); omega))

theorem wp_recvStep (k : Fin 16) {α : Type} (cont : PUnit → Prog (Kp F) α) (Q : α → sProp 𝕄) :
    iprop(records m σ K ∗ recvInv m σ c k.val)
    ⊢ iprop((recvInv m σ c (k.val + 1) -∗ run c (cont ⟨⟩) Q) -∗ run c (recvStep k >>= cont) Q) := by
  have hS := bigSep_swap (Φ := recvs (F := F) c k.val) (Ψ := recvs c (k.val + 1)) k fun j hj => by
    have hj' : j.val ≠ k.val := fun e => hj (Fin.ext e)
    unfold recvs
    by_cases h1 : j.val < k.val
    · rw [if_pos h1, if_pos (by omega)]
    · rw [if_neg h1, if_neg (by omega)]
  have s1 : recvs (F := F) c k.val k = iprop(sent c k ∗ toRecv c k) := if_neg (lt_irrefl _)
  have s2 : recvs (F := F) c (k.val + 1) k = recvd c k := if_pos (Nat.lt_succ_self _)
  rw [s1, s2] at hS
  unfold recvInv
  iintro ⟨#HR, HS, HO, ⟨%f, %hf, Hf⟩⟩ Hk
  ihave HS := hS $$ HS
  icases HS with ⟨⟨Hs, Hr⟩, HS⟩
  iapply (wp_recvRow m σ K c k f cont Q) $$ [HO Hs Hr Hf]
  · isplitr; · iexact HR
    isplitl [HO]; · iexact HO
    isplitl [Hs]; · iexact Hs
    isplitl [Hr] <;> iassumption
  iintro ⟨Hd, HO, Hf⟩
  iapply Hk
  isplitl [HS Hd]
  · iapply HS; iexact Hd
  isplitl [HO]; · iexact HO
  iexists _
  isplitr; swap; · iexact Hf
  ipureintro; exact outTo_step m σ c k f hf

end Cert.KernelIdeal.Pf
-- ==== Proof.Body.lean ====
/-
# The body

What a device starts the kernel's body from and what the body leaves: the table's word names the device to send to, the
handshake exchanges the receive buffers of a pair that swaps, the two loops run, the semaphores close.
-/
module

public import proofs.«01_k».proof.Proof.Loops

@[expose] public section

noncomputable section

namespace Cert.KernelIdeal.Pf

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (σ : Bool) (K : Dev nD × Fin 67 → ℕ) (c : Dev nD)

/-! ## The result's contents -/

/-- The chunk an element of the result lies in, and where in it. -/
def chunkOf (i : S1x2048x1024.Idx) : Fin 16 := ⟨(i 1).val / 128, by have h : (i 1).val < 2048 := (i 1).isLt; omega⟩
def inChunk (i : S1x2048x1024.Idx) : S1x128x1024.Idx := fun a => match a with
  | ⟨0, _⟩ => ⟨(i 0).val, (i 0).isLt⟩
  | ⟨1, _⟩ => ⟨(i 1).val % 128, Nat.mod_lt _ (by decide)⟩
  | ⟨2, _⟩ => ⟨(i 2).val, (i 2).isLt⟩

theorem emb_inChunk (i : S1x2048x1024.Idx) : (rX (chunkOf i)).emb (inChunk i) = i := by
  funext a
  apply Fin.ext
  match a with
  | ⟨0, _⟩ => show 0 + 1 * (i 0).val = (i 0).val; omega
  | ⟨1, _⟩ => show 128 * ((i 1).val / 128) + 1 * ((i 1).val % 128) = (i 1).val; omega
  | ⟨2, _⟩ => show 0 + 1 * (i 2).val = (i 2).val; omega

/-- The result of device `c`. -/
def outAt : (cc0_stg1_0 : Ref sig .tc).ty.Contents (Elt F) := fun i => outChunk m σ c (chunkOf i) (inChunk i)

theorem outTo_all (f : Buf (Elt F) ((c : Thread nD τ).loc cc0_stg1_0)) (h : outTo m σ c 16 f) : f = outAt m σ c := by
  funext i
  have h' := congrFun (h (chunkOf i) (chunkOf i).isLt) (inChunk i)
  refine Eq.trans (congrArg f ?_) h'
  exact (emb_inChunk i).symm

/-! ## The table -/

/-- What the run asks of the launch memory: on every device the table is `[1, 0]` if the pairs swap, else `[0, 1]`. -/
def PreOK : Prop := ∀ (c : Dev nD) (i : S2.Idx), m ((c : Thread nD τ).loc main_arg1) i = BitVec.ofNat 32 (if σ then 1 - (i 0).val else (i 0).val)

/-- The table as staged. -/
def tstg : (cc0_stg0_0 : Ref sig .tc).ty.Contents (Elt F) := (win0_0.blk t0_0).view.read (Elt F) (m ((c : Thread nD τ).loc main_arg1))

abbrev rT : Rect S2 := Rect.unit (s := S2) (k0_off1 c) S1.size (k0_off1_inb c)
/-- The word of it the body reads. -/
abbrev word (ts : (cc0_stg0_0 : Ref sig .tc).ty.Contents (Elt F)) : BitVec 32 :=
  (tM.access (rT c) : View sig .tc _ _ _).read (Elt F) ts (Shape.Idx.first (s := S1) (numel1_S1.symm ▸ Nat.one_pos))

def wordOf : BitVec 32 := BitVec.ofNat 32 (if σ then 1 - c.val / 2 % 2 else c.val / 2 % 2)

variable {m σ} in
theorem PreOK.word (h : PreOK m σ) : word c (tstg m c) = wordOf σ c := by
  have e : ∃ i : S2.Idx, (i 0).val = c.val / 2 % 2 ∧ Pf.word c (tstg m c) = m ((c : Thread nD τ).loc main_arg1) i := by
    refine ⟨_, ?_, rfl⟩
    revert c; decide
  obtain ⟨i, hi, e⟩ := e
  rw [e, h, hi]; rfl

theorem dev2_wordOf : k0_dev2 c (wordOf σ c) = (dst σ c).val := by revert c; cases σ <;> decide
theorem chk1_wordOf : k0_chk1 c (wordOf σ c) := by
  have h : k0_dev2 c (wordOf σ c) < nD := by rw [dev2_wordOf]; exact (dst σ c).isLt
  unfold k0_chk1
  repeat' apply And.intro
  all_goals exact h

variable {m σ} in
theorem PreOK.chk (h : PreOK m σ) : k0_chk1 c (Pf.word c (tstg m c)) := by rw [h.word]; exact chk1_wordOf σ c
variable {m σ} in
theorem PreOK.dev (h : PreOK m σ) (hw : k0_chk1 c (Pf.word c (tstg m c))) :
    (⟨k0_dev2 c (Pf.word c (tstg m c)), k0_dev2_lt c _ hw⟩ : Dev nD) = dst σ c :=
  Fin.ext (by show k0_dev2 c (Pf.word c (tstg m c)) = _; rw [h.word, dev2_wordOf])

/-! ## What a device starts from -/

/-- The duties of chunk `k` a device pays when it sends it. -/
def payTok (k : Fin 16) : sProp 𝕄 :=
  iprop(dutyTok ER (dmaC c (semQS k)) 0 () ∗ dutyTok ER (dmaC (dst σ c) (semQR k)) 0 ()
    ∗ dutyTok ER (dmaC c (semSS k)) 0 () ∗ dutyTok ER (dmaC (dst σ c) (semSR k)) 0 ())

/-- Its position at the four cells of chunk `k`. -/
def atRow (k : Fin 16) : sProp 𝕄 :=
  iprop(atPos ER (dmaC c (semQS k)) 0 ∅ 0 ∗ atPos ER (dmaC c (semQR k)) 0 ∅ 0 ∗ atPos ER (dmaC c (semSS k)) 0 ∅ 0 ∗ atPos ER (dmaC c (semSR k)) 0 ∅ 0)

/-- The credit of chunk `k`'s receive cells. -/
def credRow (k : Fin 16) : sProp 𝕄 :=
  iprop(cred (tallyAt (dmaC c (semQR k)) () NQ) ∗ cred (tallyAt (dmaC c (semSR k)) () NS))

/-- Its positions at its cells, and the tokens of the duties it pays. -/
def linear : sProp 𝕄 :=
  iprop((atPos ER (barC c) 0 ∅ 0 ∗ (atPos ER (dmaC c (semB 0)) 0 ∅ 0 ∗ atPos ER (dmaC c (semB 1)) 0 ∅ 0) ∗ bigSep Finset.univ (atRow (F := F) c))
    ∗ dutyTok ER (barC (sw c)) 0 () ∗ (bigSep Finset.univ fun k : Fin 16 => dutyTok ER (dmaC c (semB (par k))) (k.val / 2) ())
    ∗ bigSep Finset.univ (payTok (F := F) σ c))

/-- What a device starts the body from, its names of the cells apart: the launch credit of its cells, the level facts, its
    block of `x`. -/
def begins : sProp 𝕄 :=
  iprop(cred (tallyAt (barC c) () 1) ∗ bigSep Finset.univ (credRow (F := F) c) ∗ levAts L lv
    ∗ ((c : Thread nD τ).loc main_arg0 ↦{fullShare} m ((c : Thread nD τ).loc main_arg0)))

def start : sProp 𝕄 := iprop((∃ K, records m σ K ∗ linear (F := F) σ c) ∗ begins m c)

/-- The five scratch buffers, each at some contents. -/
def scratch : sProp 𝕄 :=
  iprop(held (F := F) c cc0_scratch0 ∗ held (F := F) c cc0_scratch1 ∗ held (F := F) c cc0_scratch2 ∗ held (F := F) c cc0_scratch3 ∗ held (F := F) c cc0_scratch4)

def Φ₀ : sProp 𝕄 := iprop(start m σ c ∗ scratch (F := F) c)

/-- The counters of chunk `k`'s semaphores at zero. -/
def zeroRow (k : Fin 16) : sProp 𝕄 :=
  iprop(semVal (dmaC c (semQS k)) 0 ∗ semVal (dmaC c (semQR k)) 0 ∗ semVal (dmaC c (semSS k)) 0 ∗ semVal (dmaC c (semSR k)) 0)

/-- What the body leaves: `x` as it was, the scratch buffers, every semaphore at zero. -/
def Φ₁ : sProp 𝕄 :=
  iprop(((c : Thread nD τ).loc main_arg0 ↦{fullShare} m ((c : Thread nD τ).loc main_arg0)) ∗ scratch (F := F) c
    ∗ ((semVal (dmaC c (semB 0)) 0 ∗ semVal (dmaC c (semB 1)) 0) ∗ bigSep Finset.univ (zeroRow (F := F) c)) ∗ semVal (barC c) 0)

/-! ## The handshake -/

/-- The receive rows of device `c`. -/
def landing : sProp 𝕄 := bigSep Finset.univ fun k : Fin 16 => iprop(any (F := F) c (qrRow k) ∗ any c (srRow k))

/-- The receive rows the destination lends before the handshake: its own, if a device sends to itself. -/
def keeps : sProp 𝕄 := if σ then iprop(emp) else landing (F := F) c

theorem bar_give : landing (F := F) c ⊢ iprop(barPay (F := F) σ (sw c) ∗ keeps (F := F) σ c) := by
  unfold barPay keeps landing
  rw [sw_sw]
  cases σ
  · show (bigSep Finset.univ fun k : Fin 16 => iprop(any c (qrRow k) ∗ any c (srRow k)))
      ⊢ iprop(emp ∗ bigSep Finset.univ fun k : Fin 16 => iprop(any (F := F) c (qrRow k) ∗ any c (srRow k)))
    iintro H; isplitr; · iempintro
    iexact H
  · show (bigSep Finset.univ fun k : Fin 16 => iprop(any c (qrRow k) ∗ any c (srRow k)))
      ⊢ iprop((bigSep Finset.univ fun k : Fin 16 => iprop(any (F := F) c (qrRow k) ∗ any c (srRow k))) ∗ emp)
    iintro H; isplitl; · iexact H
    iempintro

theorem bar_take : iprop(barPay (F := F) σ c ∗ keeps (F := F) σ c) ⊢ landing (F := F) (dst σ c) := by
  unfold barPay keeps landing
  cases σ
  · show iprop(emp ∗ bigSep Finset.univ fun k : Fin 16 => iprop(any (F := F) c (qrRow k) ∗ any c (srRow k))) ⊢ bigSep Finset.univ fun k : Fin 16 => iprop(any (F := F) c (qrRow k) ∗ any c (srRow k))
    iintro ⟨-, H⟩; iexact H
  · show iprop((bigSep Finset.univ fun k : Fin 16 => iprop(any (F := F) (sw c) (qrRow k) ∗ any (sw c) (srRow k))) ∗ emp) ⊢ bigSep Finset.univ fun k : Fin 16 => iprop(any (F := F) (sw c) (qrRow k) ∗ any (sw c) (srRow k))
    iintro ⟨H, -⟩; iexact H

/-! ## Into and out of the loops -/

theorem sends_intro :
    iprop((bigSep Finset.univ fun k => any (F := F) c (qsRow k)) ∗ (bigSep Finset.univ fun k => any (F := F) c (ssRow k)) ∗ landing (F := F) (dst σ c)
      ∗ bigSep Finset.univ (payTok (F := F) σ c)) ⊢ bigSep Finset.univ (sends (F := F) σ c 0) := by
  have e : sends (F := F) σ c 0 = fun k => iprop(any c (qsRow k) ∗ any c (ssRow k) ∗ (any (dst σ c) (qrRow k) ∗ any (dst σ c) (srRow k)) ∗ payTok σ c k) :=
    funext fun k => by
      unfold sends; rw [if_neg (Nat.not_lt_zero _)]; unfold toSend payTok
      rw [show ∀ P Q R : sProp 𝕄, iprop((P ∗ Q) ∗ R) = iprop(P ∗ Q ∗ R) from fun P Q R => BI.equiv_iff.mp ⟨BI.sep_assoc, BI.sep_assoc'⟩]
  rw [e, bigSep_sep', bigSep_sep', bigSep_sep']
  unfold landing
  exact BI.Entails.refl _

theorem xs_intro :
    iprop(((c : Thread nD τ).loc main_arg0 ↦{fullShare} m ((c : Thread nD τ).loc main_arg0))
      ∗ bigSep Finset.univ fun k : Fin 16 => dutyTok ER (dmaC c (semB (par k))) (k.val / 2) ())
    ⊢ iprop(toFetch (F := F) m c 0 ∗ bigSep Finset.univ (xs (F := F) m c 0 1)) := by
  have h := bigSep_swap (Φ := toFetch (F := F) m c) (Ψ := xs m c 0 1) 0 fun j hj => by
    have hj' : j.val ≠ 0 := fun e => hj (Fin.ext e)
    unfold xs; rw [if_neg (Nat.not_lt_zero _), if_neg (show ¬ j.val < 1 by omega)]
  have e0 : xs (F := F) m c 0 1 0 = iprop(emp) := rfl
  rw [e0] at h
  have e : bigSep Finset.univ (toFetch (F := F) m c) = iprop(bigSep Finset.univ (xPt (F := F) m c)
      ∗ bigSep Finset.univ fun k : Fin 16 => dutyTok ER (dmaC c (semB (par k))) (k.val / 2) ()) := by
    rw [← bigSep_sep']; rfl
  rw [x_rows, ← e]
  iintro H
  ihave H := h $$ H
  icases H with ⟨H0, H⟩
  isplitl [H0]; · iexact H0
  iapply H; iempintro

theorem sends_last : sends (F := F) σ c 16 = sent c := funext fun k => if_pos k.isLt
theorem xs_last : bigSep Finset.univ (xs (F := F) m c 16 17) = ((c : Thread nD τ).loc main_arg0 ↦{fullShare} m ((c : Thread nD τ).loc main_arg0)) := by
  rw [x_rows]; exact bigSep_congr fun k _ => if_pos k.isLt
theorem recvs_first : bigSep Finset.univ (recvs (F := F) c 0) = iprop(bigSep Finset.univ (sent (F := F) c) ∗ bigSep Finset.univ (toRecv (F := F) c)) := by
  rw [← bigSep_sep']; exact bigSep_congr fun k _ => if_neg (Nat.not_lt_zero _)
theorem recvs_last : recvs (F := F) c 16 = recvd c := funext fun k => if_pos k.isLt

theorem toRecv_intro : iprop(bigSep Finset.univ (atRow (F := F) c) ∗ bigSep Finset.univ (credRow (F := F) c)) ⊢ bigSep Finset.univ (toRecv (F := F) c) := by
  rw [← bigSep_sep']
  refine bigSep_mono fun k _ => ?_
  show iprop(atRow c k ∗ credRow c k) ⊢ toRecv (F := F) c k
  unfold atRow credRow toRecv
  iintro ⟨⟨H1, H2, H3, H4⟩, H5, H6⟩
  isplitl [H1]; · iexact H1
  isplitl [H2]; · iexact H2
  isplitl [H3]; · iexact H3
  isplitl [H4]; · iexact H4
  isplitl [H5] <;> iassumption

include m in
theorem recvd_elim : bigSep Finset.univ (recvd (F := F) c)
    ⊢ iprop((held c cc0_scratch1 ∗ held c cc0_scratch2 ∗ held c cc0_scratch3 ∗ held c cc0_scratch4) ∗ bigSep Finset.univ (zeroRow (F := F) c)) := by
  have e : bigSep Finset.univ (recvd (F := F) c) = iprop(((bigSep Finset.univ fun k => any (F := F) c (qsRow k)) ∗ (bigSep Finset.univ fun k => any c (ssRow k))
      ∗ (bigSep Finset.univ fun k => any c (qrRow k)) ∗ (bigSep Finset.univ fun k => any c (srRow k))) ∗ bigSep Finset.univ (zeroRow (F := F) c)) := by
    rw [← bigSep_sep', ← bigSep_sep', ← bigSep_sep', ← bigSep_sep']; rfl
  rw [e]
  iintro ⟨⟨H1, H2, H3, H4⟩, H⟩
  isplitr [H]; swap; · iexact H
  isplitl [H1]; · iapply (join_qs m c); iexact H1
  isplitl [H2]; · iapply (join_ss m c); iexact H2
  isplitl [H3]; · iapply (join_qr m c); iexact H3
  iapply (join_sr m c); iexact H4

/-- A fetch semaphore past its eight rounds closes. -/
theorem close_B (b : Fin 2) : iprop(records m σ K ∗ atPos ER (dmaC c (semB b)) 8 ∅ 0) ⊢ |={Set.univ}=> semVal (dmaC c (semB b)) 0 := by
  iintro ⟨#HR, Hat⟩
  iapply (Rounds.cell_close ER (sched m σ) (Set.mem_univ (K (c, cix (semB b)))) (fun h => h) (R := 8)
    (duties_later m σ (g := dmaC c (semB b)) fun r => not_due_B))
  isplitr; · iapply (inv_dma m σ K c (semB b) (two_B b)); iexact HR
  iexact Hat

/-- The two loops. -/
def loops (n : Dev nD) : Prog (Kp F) PUnit := loop (sendStep n) 16 0 rfl >>= fun _ => loop recvStep 16 0 rfl

theorem wp_loops (n : Dev nD) (hn : n = dst σ c) (f : Buf (Elt F) ((c : Thread nD τ).loc cc0_stg1_0)) (Q : PUnit → sProp 𝕄) :
    iprop((records m σ K ∗ levAts L lv) ∗ sendInv m σ c 0 ∗ bigSep Finset.univ (toRecv (F := F) c) ∗ ((c : Thread nD τ).loc cc0_stg1_0 ↦{fullShare} f))
    ⊢ iprop(((bigSep Finset.univ (recvd (F := F) c) ∗ ((c : Thread nD τ).loc main_arg0 ↦{fullShare} m ((c : Thread nD τ).loc main_arg0))
          ∗ (slotFree (F := F) c 16 ∗ slotFree c 17) ∗ owing c 0 ∗ ((c : Thread nD τ).loc cc0_stg1_0 ↦{fullShare} outAt m σ c)) -∗ |={Set.univ}=> Q ⟨⟩)
        -∗ run c (loops n) Q) := by
  have hs := wp_loop c iprop(records m σ K ∗ levAts L lv) (sendInv m σ c) (sendStep n) (fun k _ cont Q => wp_sendStep m σ K c n hn k cont Q)
    (fun _ => loop recvStep 16 0 rfl) Q 16 0 rfl
  have hr := wp_loop c (records m σ K) (recvInv m σ c) recvStep (fun k _ cont Q => wp_recvStep m σ K c k cont Q) pure Q 16 0 rfl
  rw [Prog.bind_pure] at hr
  have hq : iprop(|={Set.univ}=> Q ⟨⟩) ⊢ run c (pure PUnit.unit) Q := by
    show iprop(|={Set.univ}=> Q ⟨⟩) ⊢ wp frame (wpE (defs₀ (F := F)) 𝒱₀ (c : Thread nD τ) none) Set.univ (.ret PUnit.unit) Q
    rw [wp_ret]
  have t : slots (F := F) c 16 = iprop(slotFree c 16 ∗ slotFree c 17) := if_neg (by decide)
  have e1 : sendInv (F := F) m σ c 16 = iprop(bigSep Finset.univ (sent (F := F) c) ∗ ((c : Thread nD τ).loc main_arg0 ↦{fullShare} m ((c : Thread nD τ).loc main_arg0))
      ∗ (slotFree c 16 ∗ slotFree c 17) ∗ owing c 0) := by
    unfold sendInv; rw [sends_last, xs_last, t]; rfl
  rw [e1] at hs
  unfold loops
  iintro ⟨⟨#HR, #HL⟩, HS, HV, Hf⟩ Hk
  iapply hs $$ [HS]
  · isplitr
    · isplitr; · iexact HR
      iexact HL
    iexact HS
  iintro ⟨Hs, Hx, Hsl, HO⟩
  iapply hr $$ [Hs HV HO Hf]
  · isplitr; · iexact HR
    unfold recvInv
    rw [recvs_first]
    isplitl [Hs HV]; · (isplitl [Hs] <;> iassumption)
    isplitl [HO]; · iexact HO
    iexists f
    isplitr; · (ipureintro; exact fun j hj => absurd hj (Nat.not_lt_zero _))
    iexact Hf
  unfold recvInv
  rw [recvs_last]
  iintro ⟨Hd, HO, ⟨%g, %hg, Hf⟩⟩
  obtain rfl := outTo_all m σ c g hg
  iapply hq
  iapply Hk
  isplitl [Hd]; · iexact Hd
  isplitl [Hx]; · iexact Hx
  isplitl [Hsl]; · iexact Hsl
  isplitl [HO] <;> iassumption

/-! ## The body -/

/-- The word loaded, under its check: the loops' destination is `dst σ c`. -/
theorem wp_signal_bar (O : CellTallies nD τ sig Unit) {α : Type} (cont : PUnit → Prog (Kp F) α) (Q : α → sProp 𝕄) (n : Dev nD) (hn : n = sw c) (v : Int) (hv : v = 1) :
    iprop(records m σ K ∗ owing c (O + tallyAt (barC (sw c)) () 1) ∗ dutyTok ER (barC (sw c)) 0 () ∗ barPay (F := F) σ (sw c))
    ⊢ iprop((owing c O -∗ run c (cont ⟨⟩) Q) -∗ run c (.op (.semSignal (n : Thread nD τ) barS v) cont) Q) := by
  subst hn hv
  have e : (sched (F := F) m σ).payload (barC (sw c)) 0 () = barPay σ (sw c) := rfl
  unfold owing
  iintro ⟨#HR, ⟨%W, HO⟩, Ht, Hp⟩ Hk
  iapply (Rounds.wp_signal 𝒱₀ ER (sched m σ) (c : Thread nD τ) none (dst := (sw c : Thread nD τ)) (κ := K (sw c, 0)) (r := 0)
      (d := ()) (mem_duties m σ (g := barC (sw c)) rfl due_bar) (show amt (.reg barS) = _ from rfl) () O rfl) $$ [HO Ht Hp]
  · isplitr; · iapply (inv_bar m σ K (sw c)); iexact HR
    isplitl [HO]; · iexact HO
    isplitl [Ht]; · iexact Ht
    isplitl [Hp]; · iapply (Entails.of_eq e.symm); iexact Hp
    iapply (reached_bar m σ K (sw c)); iexact HR
  iintro HO
  iapply Hk
  iexists W; iexact HO

theorem wp_wait_bar {α : Type} (cont : PUnit → Prog (Kp F) α) (Q : α → sProp 𝕄) (v : Int) (hv : v = 1) :
    iprop((records m σ K ∗ levAts L lv) ∗ cred (tallyAt (barC c) () 1) ∗ owing c (owedQ σ c 16) ∗ atPos ER (barC c) 0 ∅ 0)
    ⊢ iprop(((owing c (owedQ σ c 16) ∗ semVal (barC c) 0 ∗ barPay (F := F) σ c) -∗ run c (cont ⟨⟩) Q) -∗ run c (.op (.semWait barS v) cont) Q) := by
  subst hv
  unfold owing
  iintro ⟨⟨#HR, #HL⟩, Hc, ⟨%W, HO⟩, Hat⟩ Hk
  iapply (Rounds.wp_wait_rest_token 𝒱₀ ER (sched m σ) (c : Thread nD τ) none (κ := K (c, 0))
      (wpE_semWait_eq 𝒱₀ (c : Thread nD τ) none Set.univ) (Set.mem_univ _) () (O := owedQ σ c 16) (W := W) (R := 0) (m := 0) (T := ∅)
      (by rw [Nat.zero_add, expect_of m σ (g := barC c) rfl due_bar]; rfl)) $$ [Hc HO Hat]
  · isplitr; · iapply (inv_bar m σ K c); iexact HR
    isplitl [Hc]; · iexact Hc
    isplitl [HO]; · iexact HO
    isplitr; · iapply (mayWait_bar (F := F) σ c); iexact HL
    iexact Hat
  iintro ⟨HO, Hat, -, Hp⟩
  ihave Hp := (Entails.of_eq ((rest_of m σ (g := barC c) rfl due_bar).trans (show _ = barPay (F := F) σ c from rfl))) $$ Hp
  imod (Rounds.cell_close ER (sched m σ) (Set.mem_univ (K (c, 0))) (fun h => h) (R := 0 + 1)
    (duties_later m σ (g := barC c) fun r => not_due_bar)) $$ [Hat] with Hz
  · isplitr; · iapply (inv_bar m σ K c); iexact HR
    iexact Hat
  iapply Hk
  isplitl [HO]; · iexists _; iexact HO
  isplitl [Hz]; · iexact Hz
  iexact Hp

/-- What the body leaves, given its two staging buffers. -/
def ends : sProp 𝕄 :=
  iprop(Φ₁ m c ∗ owing c 0 ∗ ((c : Thread nD τ).loc cc0_stg0_0 ↦{fullShare} tstg m c) ∗ ((c : Thread nD τ).loc cc0_stg1_0 ↦{fullShare} outAt m σ c))

/-- The body once the table's word is known: the first fetch, the handshake, the loops. -/
theorem wp_rest (n n' : Dev nD) (hn : n = sw c) (hn' : n' = dst σ c) (v v' : Int) (hv : v = 1) (hv' : v' = 1)
    (f : Buf (Elt F) ((c : Thread nD τ).loc cc0_stg1_0)) (Q : PUnit → sProp 𝕄) :
    iprop((records m σ K ∗ linear (F := F) σ c) ∗ begins m c ∗ scratch c ∗ owing c (O₀ σ c)
        ∗ ((c : Thread nD τ).loc cc0_stg0_0 ↦{fullShare} tstg m c) ∗ ((c : Thread nD τ).loc cc0_stg1_0 ↦{fullShare} f))
    ⊢ iprop((ends m σ c -∗ Q ⟨⟩) -∗ run c (fetch 0 >>= fun _ => .op (.semSignal (n : Thread nD τ) barS v) fun _ => .op (.semWait barS v') fun _ => loops n') Q) := by
  unfold linear begins scratch O₀
  iintro ⟨⟨#HR, ⟨HaB, ⟨Ha0, Ha1⟩, Har⟩, HtB, HtF, HtP⟩, ⟨HcB, HcR, #HL, Hx⟩, ⟨Hs0, Hs1, Hs2, Hs3, Hs4⟩, HO, HT, Hf⟩ Hk
  ihave Hx := (xs_intro (F := F) m c) $$ [Hx HtF]
  · isplitl [Hx] <;> iassumption
  icases Hx with ⟨Hx0, Hx⟩
  ihave Hs0 := (split_b (F := F) c) $$ Hs0
  icases Hs0 with ⟨Hb0, Hb1⟩
  iapply (wp_fetch m σ K c 0 _ Q) $$ [Hx0 Ha0 Hb0]
  · isplitr; · iexact HR
    isplitl [Ha0 Hb0]
    · unfold slotFree
      isplitl [Ha0]; · iexact Ha0
      isplitr; · iapply (reached_dma m σ K c (semB 0) (two_B 0)); iexact HR
      iexact Hb0
    iexact Hx0
  iintro Hbusy
  ihave Hq := (split_qr (F := F) c) $$ Hs3
  ihave Hs := (split_sr (F := F) c) $$ Hs4
  ihave Hl := (show iprop((bigSep Finset.univ fun k => any c (qrRow k)) ∗ (bigSep Finset.univ fun k => any c (srRow k))) ⊢ landing (F := F) c from
    Entails.of_eq (by rw [← bigSep_sep']; rfl)) $$ [Hq Hs]
  · isplitl [Hq] <;> iassumption
  ihave Hl := (bar_give (F := F) σ c) $$ Hl
  icases Hl with ⟨Hp, Hkeep⟩
  iapply (wp_signal_bar m σ K c (owedQ σ c 16) _ Q n hn v hv) $$ [HO HtB Hp]
  · isplitr; · iexact HR
    isplitl [HO]; · iexact HO
    isplitl [HtB] <;> iassumption
  iintro HO
  iapply (wp_wait_bar m σ K c _ Q v' hv') $$ [HcB HO HaB]
  · isplitr
    · isplitr; · iexact HR
      iexact HL
    isplitl [HcB]; · iexact HcB
    isplitl [HO] <;> iassumption
  iintro ⟨HO, HzB, Hp⟩
  ihave Hl := (bar_take (F := F) σ c) $$ [Hp Hkeep]
  · isplitl [Hp] <;> iassumption
  ihave Hq := (split_qs (F := F) c) $$ Hs1
  ihave Hs := (split_ss (F := F) c) $$ Hs2
  ihave HS := (sends_intro (F := F) σ c) $$ [Hq Hs Hl HtP]
  · isplitl [Hq]; · iexact Hq
    isplitl [Hs]; · iexact Hs
    isplitl [Hl] <;> iassumption
  ihave HV := (toRecv_intro (F := F) c) $$ [Har HcR]
  · isplitl [Har] <;> iassumption
  iapply (wp_loops m σ K c n' hn' f Q) $$ [HS Hx Hbusy Ha1 Hb1 HO HV Hf]
  · isplitr
    · isplitr; · iexact HR
      iexact HL
    isplitr [HV Hf]
    · unfold sendInv
      isplitl [HS]; · iexact HS
      isplitl [Hx]; · iexact Hx
      isplitl [Hbusy Ha1 Hb1]
      · rw [show slots (F := F) c 0 = iprop(slotBusy c 0 ∗ slotFree c 1) from if_pos (by decide)]
        isplitl [Hbusy]; · iexact Hbusy
        unfold slotFree
        isplitl [Ha1]; · iexact Ha1
        isplitr; · iapply (reached_dma m σ K c (semB 1) (two_B 1)); iexact HR
        iexact Hb1
      iexact HO
    isplitl [HV] <;> iassumption
  iintro ⟨Hd, Hx, ⟨Hf0, Hf1⟩, HO, Hf⟩
  unfold slotFree
  icases Hf0 with ⟨Ha0, -, Hb0⟩
  icases Hf1 with ⟨Ha1, -, Hb1⟩
  imod (close_B m σ K c 0) $$ [Ha0] with Hz0
  · isplitr; · iexact HR
    iexact Ha0
  imod (close_B m σ K c 1) $$ [Ha1] with Hz1
  · isplitr; · iexact HR
    iexact Ha1
  ihave Hd := (recvd_elim (F := F) m c) $$ Hd
  icases Hd with ⟨⟨H1, H2, H3, H4⟩, Hz⟩
  ihave H0 := (join_b (F := F) m c) $$ [Hb0 Hb1]
  · isplitl [Hb0]; · iexact Hb0
    iexact Hb1
  imodintro
  iapply Hk
  unfold ends Φ₁ scratch
  isplitr [HO HT Hf]
  · isplitl [Hx]; · iexact Hx
    isplitl [H0 H1 H2 H3 H4]
    · isplitl [H0]; · iexact H0
      isplitl [H1]; · iexact H1
      isplitl [H2]; · iexact H2
      isplitl [H3] <;> iassumption
    isplitr [HzB]
    · isplitr [Hz]
      · isplitl [Hz0] <;> iassumption
      iexact Hz
    iexact HzB
  isplitl [HO]; · iexact HO
  isplitl [HT] <;> iassumption

/-- The body, run from what a device starts it from. -/
theorem sound_body (h : PreOK m σ) (f : Buf (Elt F) ((c : Thread nD τ).loc cc0_stg1_0)) (Q : PUnit → sProp 𝕄) :
    iprop((records m σ K ∗ linear (F := F) σ c) ∗ begins m c ∗ scratch c ∗ owing c (O₀ σ c)
        ∗ ((c : Thread nD τ).loc cc0_stg0_0 ↦{fullShare} tstg m c) ∗ ((c : Thread nD τ).loc cc0_stg1_0 ↦{fullShare} f))
    ⊢ iprop((ends m σ c -∗ Q ⟨⟩) -∗ run c body Q) := by
  have hr := wp_rest m σ K c _ _ (dev1_eq c) (h.dev c (h.chk c)) _ _ (show (1#32).toInt = 1 by decide) (show (1#32).toInt = 1 by decide) f Q
  unfold loops at hr
  unfold body
  simp only [run, semSignalWord, semWaitWord, smemLoad, smemLoadElt, Prog.lift, Prog.bind_op, Prog.bind_ret, Prog.pure_eq_ret, wp_deviceId]
  iintro ⟨H1, H2, H3, H4, HT, H5⟩ Hk
  iapply (wp_load_rect 𝒱₀ (c : Thread nD τ) none Set.univ (m := tM) (r := rT c) (Finset.subset_univ _)) $$ HT; iintro HT
  simp only [wp_assume_of _ _ _ _ (d := k0_chk1.dec _ _) (h.chk c)]
  iapply hr $$ [H1 H2 H3 H4 HT H5]
  · isplitl [H1]; · iexact H1
    isplitl [H2]; · iexact H2
    isplitl [H3]; · iexact H3
    isplitl [H4]; · iexact H4
    isplitl [HT] <;> iassumption
  iexact Hk

end Cert.KernelIdeal.Pf
-- ==== Proof.Cells.lean ====
/-
# The cells at launch

The kernel's sixty-seven cells a device, regrouped by family: the duty tokens minted and dealt to the devices that pay
them, the invariants allocated, the credit owed to a device's cells at launch.
-/
module

public import proofs.«01_k».proof.Proof.Body

@[expose] public section

noncomputable section

namespace Cert.KernelIdeal.Pf

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (σ : Bool)

/-! ## The cells by family -/

/-- The kernel's own semaphores, in order. -/
def osem (i : Fin 66) : SemLoc sig := .dma ⟨2 + i.val, by show _ < 68; omega⟩

theorem ownSemFacts : Pipeline.OwnSemFacts cfg0.spec osem := by decide

theorem csem_succ (i : Fin 66) : csem i.succ = osem i := by
  unfold csem osem
  rw [if_neg (show ¬ (i.succ.val = 0) from Nat.succ_ne_zero i.val)]
  exact congrArg SemLoc.dma (Fin.ext (by show i.val + 1 + 1 = 2 + i.val; omega))

/-- A semaphore of the kernel's own by its family: a fetch slot's, or one of a chunk's four. -/
abbrev Own : Type := Fin 2 ⊕ Fin 16 × Fin 4

def ownIx : Own → Fin 66
  | .inl b => ⟨b.val, by omega⟩
  | .inr (k, t) => ⟨2 + 16 * t.val + k.val, by omega⟩
def ixOwn (i : Fin 66) : Own :=
  if h : i.val < 2 then .inl ⟨i.val, h⟩ else .inr (⟨(i.val - 2) % 16, Nat.mod_lt _ (by decide)⟩, ⟨(i.val - 2) / 16, by omega⟩)

def ownEquiv : Own ≃ Fin 66 := ⟨ownIx, ixOwn, by decide, by decide⟩

theorem bigSep_four (Φ : Fin 4 → sProp 𝕄) : bigSep Finset.univ Φ = iprop(Φ 0 ∗ Φ 1 ∗ Φ 2 ∗ Φ 3) :=
  bigSep_univ_eq_bigSepL [0, 1, 2, 3] (by decide) (by decide) Φ
theorem bigSep_five (Φ : Fin 5 → sProp 𝕄) : bigSep Finset.univ Φ = iprop(Φ 0 ∗ Φ 1 ∗ Φ 2 ∗ Φ 3 ∗ Φ 4) :=
  bigSep_univ_eq_bigSepL [0, 1, 2, 3, 4] (by decide) (by decide) Φ
theorem bigSep_unit (Φ : Unit → sProp 𝕄) : bigSep Finset.univ Φ = Φ () := by
  rw [show (Finset.univ : Finset Unit) = {()} from rfl, bigSep_singleton]

theorem osem_B (b : Fin 2) : osem (ownIx (.inl b)) = .dma (semB b) := rfl
theorem osem_row (k : Fin 16) : osem (ownIx (.inr (k, 0))) = .dma (semQS k) ∧ osem (ownIx (.inr (k, 1))) = .dma (semQR k)
    ∧ osem (ownIx (.inr (k, 2))) = .dma (semSS k) ∧ osem (ownIx (.inr (k, 3))) = .dma (semSR k) := by
  refine ⟨?_, ?_, ?_, ?_⟩ <;> refine congrArg SemLoc.dma (Fin.ext ?_)
  · show 2 + (2 + 16 * 0 + k.val) = 4 + k.val; omega
  · show 2 + (2 + 16 * 1 + k.val) = 20 + k.val; omega
  · show 2 + (2 + 16 * 2 + k.val) = 36 + k.val; omega
  · show 2 + (2 + 16 * 3 + k.val) = 52 + k.val; omega

/-- A family over the kernel's own semaphores: the slots' two, then the chunks' four each. -/
theorem bigSep_own (Φ : SemLoc sig → sProp 𝕄) : (bigSep Finset.univ fun i => Φ (osem i))
    = iprop((Φ (.dma (semB 0)) ∗ Φ (.dma (semB 1)))
      ∗ bigSep Finset.univ fun k : Fin 16 => iprop(Φ (.dma (semQS k)) ∗ Φ (.dma (semQR k)) ∗ Φ (.dma (semSS k)) ∗ Φ (.dma (semSR k)))) := by
  rw [bigSep_univ_equiv ownEquiv (fun i => Φ (osem i)), bigSep_univ_sum, bigSep_univ_prod, bigSep_two]
  refine congrArg (fun R : sProp 𝕄 => iprop((Φ (.dma (semB 0)) ∗ Φ (.dma (semB 1))) ∗ R)) (bigSep_congr fun k _ => ?_)
  obtain ⟨h0, h1, h2, h3⟩ := osem_row k
  rw [bigSep_four, ← h0, ← h1, ← h2, ← h3]; rfl

/-- And over all the cells' semaphores: the barrier first. -/
theorem bigSep_csem (Φ : SemLoc sig → sProp 𝕄) : (bigSep Finset.univ fun i => Φ (csem i))
    = iprop(Φ (.reg barS) ∗ bigSep Finset.univ fun i => Φ (osem i)) := by
  have h : (Finset.univ.erase (0 : Fin 67)) = Finset.univ.map (Fin.succEmb 66) := by decide
  have h' : (bigSep (Finset.univ.erase (0 : Fin 67)) fun i => Φ (csem i)) = bigSep Finset.univ fun i => Φ (osem i) := by
    rw [h, bigSep_map]; exact bigSep_congr fun i _ => congrArg Φ (csem_succ i)
  rw [← h']
  exact BI.bigSep_univ_split (0 : Fin 67)

theorem csem_injective : Function.Injective csem := by
  intro i j h
  unfold csem at h
  by_cases hi : i.val = 0 <;> by_cases hj : j.val = 0
  · exact Fin.ext (hi.trans hj.symm)
  · rw [if_pos hi, if_neg hj] at h; exact absurd h (fun h' => by cases h')
  · rw [if_neg hi, if_pos hj] at h; exact absurd h (fun h' => by cases h')
  · rw [if_neg hi, if_neg hj] at h
    have := congrArg Fin.val (SemLoc.dma.inj h)
    exact Fin.ext (Nat.succ.inj this)

theorem kcell_injective : Function.Injective (kcell : Dev nD × Fin 67 → GSem nD τ sig) := by
  rintro ⟨c, i⟩ ⟨d, j⟩ h
  have h1 : c = d := congrArg (fun g : GSem nD τ sig => g.1.1) h
  have h2 : i = j := csem_injective (congrArg Prod.snd h)
  rw [h1, h2]

def kCells : Finset (GSem nD τ sig) := Finset.univ.map ⟨kcell, kcell_injective⟩

/-! ## The duty tokens -/

/-- A device's duties: its barrier's, and five a chunk — its fetch's and its four semaphores'. -/
abbrev Duty : Type := Unit ⊕ Fin 16 × Fin 5

def dutyAt : Duty → SemLoc sig × ℕ
  | .inl _ => (.reg barS, 0)
  | .inr (k, t) => if t = 0 then (.dma (semB (par k)), k.val / 2) else if t = 1 then (.dma (semQS k), 0)
      else if t = 2 then (.dma (semQR k), 0) else if t = 3 then (.dma (semSS k), 0) else (.dma (semSR k), 0)

/-- Which duty a semaphore and a round name. -/
def dutyOf : SemLoc sig × ℕ → Duty
  | (.reg _, _) => .inl ()
  | (.dma q, r) => if q.val < 4 then .inr (i16 (2 * r + q.val % 2), 0)
      else .inr (i16 (q.val - 4), if q.val < 20 then 1 else if q.val < 36 then 2 else if q.val < 52 then 3 else 4)

theorem dutyOf_at : ∀ d : Duty, dutyOf (dutyAt d) = d := by decide

abbrev tokOf (cd : Dev nD × Duty) : GSem nD τ sig × ℕ × Unit := (((cd.1 : Thread nD τ), (dutyAt cd.2).1), (dutyAt cd.2).2, ())

theorem tokOf_injective : Function.Injective (tokOf : Dev nD × Duty → GSem nD τ sig × ℕ × Unit) := by
  rintro ⟨c, d⟩ ⟨c', d'⟩ h
  have h1 : c = c' := congrArg (fun g : GSem nD τ sig × ℕ × Unit => g.1.1.1) h
  have h2 : dutyAt d = dutyAt d' := congrArg (fun g : GSem nD τ sig × ℕ × Unit => (g.1.2, g.2.1)) h
  have h3 : d = d' := by rw [← dutyOf_at d, h2, dutyOf_at]
  rw [h1, h3]

def kToks : Finset (GSem nD τ sig × ℕ × Unit) := Finset.univ.map ⟨tokOf, tokOf_injective⟩

def u₀ : UU := (initOf (Pipeline.cells cfgs cellOf_inj) (Pipeline.launchToks cfgs cellOf_inj), initOf kCells kToks)

/-- The tokens of the duties of a device's own cells. -/
def toks (c : Dev nD) : sProp 𝕄 :=
  iprop(dutyTok ER (barC c) 0 ()
    ∗ bigSep Finset.univ fun k : Fin 16 => iprop(dutyTok ER (dmaC c (semB (par k))) (k.val / 2) () ∗ dutyTok ER (dmaC c (semQS k)) 0 ()
      ∗ dutyTok ER (dmaC c (semQR k)) 0 () ∗ dutyTok ER (dmaC c (semSS k)) 0 () ∗ dutyTok ER (dmaC c (semSR k)) 0 ()))

theorem toks_eq : bigSep kToks (fun x => (dutyTok ER x.1 x.2.1 x.2.2 : sProp 𝕄)) = bigSep Finset.univ fun c : Dev nD => toks c := by
  unfold kToks
  rw [bigSep_map, bigSep_univ_prod]
  refine bigSep_congr fun c _ => ?_
  rw [bigSep_univ_sum, bigSep_univ_prod, bigSep_unit]
  unfold toks
  refine congrArg (fun R : sProp 𝕄 => iprop(dutyTok ER (barC c) 0 () ∗ R)) (bigSep_congr fun k _ => ?_)
  rw [bigSep_five]; rfl

/-- The tokens dealt: a device keeps those of its fetch and send cells, takes its destination's receive cells' and the
    barrier's of the device across. -/
theorem toks_dealt : (bigSep Finset.univ fun c : Dev nD => (toks c : sProp 𝕄))
    ⊢ bigSep Finset.univ fun c : Dev nD => iprop(dutyTok ER (barC (sw c)) 0 ()
      ∗ (bigSep Finset.univ fun k : Fin 16 => dutyTok ER (dmaC c (semB (par k))) (k.val / 2) ()) ∗ bigSep Finset.univ (payTok (F := F) σ c)) := by
  unfold toks payTok
  simp only [bigSep_sep']
  rw [bigSep_univ_equiv swEquiv (fun c : Dev nD => (dutyTok ER (barC c) 0 () : sProp 𝕄)),
    bigSep_univ_equiv (dstEquiv σ) (fun c : Dev nD => bigSep Finset.univ fun k : Fin 16 => (dutyTok ER (dmaC c (semQR k)) 0 () : sProp 𝕄)),
    bigSep_univ_equiv (dstEquiv σ) (fun c : Dev nD => bigSep Finset.univ fun k : Fin 16 => (dutyTok ER (dmaC c (semSR k)) 0 () : sProp 𝕄))]
  exact BI.Entails.refl _

/-! ## Allocation -/

/-- What the launch element deals device `c`. -/
def G (c : Dev nD) : sProp 𝕄 :=
  iprop((bigSep Finset.univ fun k : Fin 67 => roundState ER (sched m σ) (kcell (c, k)) 0)
    ∗ (bigSep Finset.univ fun k : Fin 67 => iprop(atPos ER (kcell (c, k)) 0 ∅ 0 ∗ reached ER (kcell (c, k)) 0)) ∗ toks c)

/-- What the global step makes of it. -/
def G' (c : Dev nD) : sProp 𝕄 := iprop(∃ K, records m σ K ∗ linear (F := F) σ c)

theorem fund_cells : BI.own (ER (initOf kCells kToks)) ⊢ (|==> bigSep Finset.univ (G (F := F) m σ) : sProp 𝕄) := by
  have hX (Φ : GSem nD τ sig → sProp 𝕄) : bigSep kCells Φ = bigSep Finset.univ fun c : Dev nD => bigSep Finset.univ fun k : Fin 67 => Φ (kcell (c, k)) := by
    unfold kCells; rw [bigSep_map, bigSep_univ_prod]; rfl
  iintro HX
  imod (Rounds.fund ER (sched m σ) kCells kToks) $$ HX with ⟨Hst, Hr, Hat, Htok⟩
  imodintro
  ihave Hst := (Entails.of_eq (hX fun g => roundState ER (sched m σ) g 0)) $$ Hst
  ihave Hat := (Entails.of_eq (hX fun g => atPos ER g 0 ∅ 0)) $$ Hat
  ihave Hr := (Entails.of_eq (hX fun g => reached ER g 0)) $$ Hr
  ihave Htok := (Entails.of_eq (toks_eq (F := F))) $$ Htok
  unfold G; simp only [bigSep_sep']
  isplitl [Hst]; · iexact Hst
  isplitl [Hat Hr]
  · isplitl [Hat] <;> iassumption
  iexact Htok

theorem unscopedSems0_eq (c : Dev nD) : (unscopedSems0 c : sProp 𝕄) = semVal (barC c) 0 := by
  unfold unscopedSems0; rw [bigSep_eq_bigSepL_of_eq [SemLoc.reg barS] (by decide) (by decide)]; rfl

abbrev ownZero (c : Dev nD) : sProp 𝕄 := Pipeline.ownSems0 (Ix := Unit) (Name := ℕ) (U := UU) (Lvl := ℕ) (Val := Elt F) (τ := τ) osem c

theorem ownZero_eq (c : Dev nD) : ownZero (F := F) c
    = iprop((semVal (dmaC c (semB 0)) 0 ∗ semVal (dmaC c (semB 1)) 0) ∗ bigSep Finset.univ (zeroRow (F := F) c)) :=
  bigSep_own fun sm => semVal ((c : Thread nD τ), sm) 0

theorem sems0_eq (c : Dev nD) : iprop(ownZero (F := F) c ∗ unscopedSems0 c) ⊢ (bigSep Finset.univ fun k : Fin 67 => semVal (kcell (c, k)) 0 : sProp 𝕄) := by
  have h := bigSep_csem (F := F) fun sm => semVal ((c : Thread nD τ), sm) 0
  rw [unscopedSems0_eq]
  show iprop(ownZero (F := F) c ∗ semVal (barC c) 0) ⊢ (bigSep Finset.univ fun k : Fin 67 => semVal ((c : Thread nD τ), csem k) 0 : sProp 𝕄)
  rw [h]
  show iprop((bigSep Finset.univ fun i => semVal ((c : Thread nD τ), osem i) 0) ∗ semVal (barC c) 0)
    ⊢ (iprop(semVal (barC c) 0 ∗ bigSep Finset.univ fun i => semVal ((c : Thread nD τ), osem i) 0) : sProp 𝕄)
  exact sep_comm

/-- A device's invariants, its positions and tokens beside. -/
abbrev allocated (c : Dev nD) : sProp 𝕄 :=
  iprop((bigSep Finset.univ fun k => iprop(∃ κ : ℕ, cellInv ER (sched m σ) κ (kcell (c, k))))
    ∗ (bigSep Finset.univ fun k => iprop(atPos ER (kcell (c, k)) 0 ∅ 0 ∗ reached ER (kcell (c, k)) 0)) ∗ toks c)

theorem core_alloc (c : Dev nD) :
    iprop(ownZero (F := F) c ∗ unscopedSems0 c ∗ G m σ c) ⊢ |={Set.univ}=> allocated (F := F) m σ c := by
  have hinv : iprop((bigSep Finset.univ fun k : Fin 67 => semVal (kcell (c, k)) 0) ∗ bigSep Finset.univ fun k : Fin 67 => roundState ER (sched m σ) (kcell (c, k)) 0)
      ⊢ (|={Set.univ}=> bigSep Finset.univ fun k => iprop(∃ κ : ℕ, cellInv ER (sched m σ) κ (kcell (c, k))) : sProp 𝕄) := by
    rw [← bigSep_sep']
    exact (bigSep_mono fun k _ => (Rounds.body_intro ER (sched m σ) (kcell (c, k))).trans inv_alloc).trans (bigSep_fupd _ _)
  unfold G
  iintro ⟨Hos, Hus, Hst, Hat, Htok⟩
  ihave Hv := (sems0_eq (F := F) c) $$ [Hos Hus]
  · isplitl [Hos] <;> iassumption
  imod hinv $$ [Hv Hst] with Hinv
  · isplitl [Hv] <;> iassumption
  imodintro
  isplitl [Hinv]; · iexact Hinv
  isplitl [Hat] <;> iassumption

theorem linear_intro (c : Dev nD) :
    iprop((bigSep Finset.univ fun k : Fin 67 => (atPos ER (kcell (c, k)) 0 ∅ 0 : sProp 𝕄)) ∗ dutyTok ER (barC (sw c)) 0 ()
      ∗ (bigSep Finset.univ fun k : Fin 16 => dutyTok ER (dmaC c (semB (par k))) (k.val / 2) ()) ∗ bigSep Finset.univ (payTok (F := F) σ c))
    ⊢ linear (F := F) σ c := by
  have h := bigSep_csem (F := F) fun sm => atPos ER ((c : Thread nD τ), sm) 0 ∅ 0
  rw [bigSep_own (F := F) fun sm => atPos ER ((c : Thread nD τ), sm) 0 ∅ 0] at h
  refine Entails.of_eq ?_
  unfold linear atRow
  exact congrArg (fun R : sProp 𝕄 => iprop(R ∗ dutyTok ER (barC (sw c)) 0 ()
    ∗ (bigSep Finset.univ fun k : Fin 16 => dutyTok ER (dmaC c (semB (par k))) (k.val / 2) ()) ∗ bigSep Finset.univ (payTok (F := F) σ c))) h

theorem with_records (K : Dev nD × Fin 67 → ℕ) :
    iprop(records m σ K ∗ bigSep Finset.univ (linear (F := F) σ)) ⊢ bigSep Finset.univ (G' (F := F) m σ) :=
  (sep_mono_left (BI.bigSep_of_persistent Finset.univ (records m σ K))).trans (by
    rw [← bigSep_sep']
    refine bigSep_mono fun c _ => ?_
    show iprop(records m σ K ∗ linear σ c) ⊢ G' (F := F) m σ c
    unfold G'
    iintro H; iexists K; iexact H)

theorem regroup : (bigSep Finset.univ (allocated (F := F) m σ)) ⊢ bigSep Finset.univ (G' (F := F) m σ) := by
  have hr : (bigSep Finset.univ (allocated (F := F) m σ)) = iprop((bigSep Finset.univ fun ck : Dev nD × Fin 67 => iprop(∃ κ : ℕ, cellInv ER (sched m σ) κ (kcell ck)))
      ∗ ((bigSep Finset.univ fun c : Dev nD => bigSep Finset.univ fun k : Fin 67 => atPos ER (kcell (c, k)) 0 ∅ 0)
        ∗ bigSep Finset.univ fun ck : Dev nD × Fin 67 => reached ER (kcell ck) 0) ∗ bigSep Finset.univ fun c : Dev nD => toks c) := by
    unfold allocated
    rw [bigSep_sep', bigSep_sep', ← bigSep_univ_prod (fun ck : Dev nD × Fin 67 => iprop(∃ κ : ℕ, cellInv ER (sched m σ) κ (kcell ck))),
      bigSep_congr (s := Finset.univ) (fun (c : Dev nD) _ => bigSep_sep' Finset.univ (fun k : Fin 67 => (atPos ER (kcell (c, k)) 0 ∅ 0 : sProp 𝕄)) (fun k => reached ER (kcell (c, k)) 0)),
      bigSep_sep', ← bigSep_univ_prod (fun ck : Dev nD × Fin 67 => (reached ER (kcell ck) 0 : sProp 𝕄))]
  have hl : iprop((bigSep Finset.univ fun c : Dev nD => bigSep Finset.univ fun k : Fin 67 => (atPos ER (kcell (c, k)) 0 ∅ 0 : sProp 𝕄))
      ∗ bigSep Finset.univ fun c : Dev nD => iprop(dutyTok ER (barC (sw c)) 0 ()
        ∗ (bigSep Finset.univ fun k : Fin 16 => dutyTok ER (dmaC c (semB (par k))) (k.val / 2) ()) ∗ bigSep Finset.univ (payTok (F := F) σ c)))
      ⊢ bigSep Finset.univ (linear (F := F) σ) := by
    rw [← bigSep_sep']; exact bigSep_mono fun c _ => linear_intro σ c
  rw [hr]
  iintro ⟨HI, ⟨Hat, #HR⟩, Htok⟩
  ihave HK := (BI.bigSep_exists_pi Finset.univ (fun (ck : Dev nD × Fin 67) (κ : ℕ) => (cellInv ER (sched m σ) κ (kcell ck) : sProp 𝕄))) $$ HI
  icases HK with ⟨%K, #HI⟩
  ihave Htok := (toks_dealt (F := F) σ) $$ Htok
  iapply (with_records m σ K)
  isplitr
  · unfold records
    isplitr; · iexact HI
    iexact HR
  iapply hl
  isplitl [Hat] <;> iassumption

/-- The global step: every device's semaphores and ghost resources at once. -/
theorem glob : (bigSep Finset.univ fun c => iprop(ownZero (F := F) c ∗ unscopedSems0 c ∗ G m σ c)) ⊢ |={Set.univ}=> bigSep Finset.univ (G' (F := F) m σ) :=
  ((bigSep_mono fun c _ => core_alloc m σ c).trans (bigSep_fupd _ _)).trans (BI.fupd_mono (regroup m σ))

/-! ## The credit at launch -/

theorem cell_eq {a b : Dev nD} {q q' : DmaSem sig} (h : dmaC a q = dmaC b q') : a = b ∧ q = q' :=
  ⟨congrArg (fun g : GSem nD τ sig => g.1.1) h, SemLoc.dma.inj (congrArg Prod.snd h)⟩

/-- What a device owes a receive cell with its last `n` chunks left. -/
theorem owedQ_QR (d c : Dev nD) (k : Fin 16) : ∀ n, n ≤ 16 → owedQ σ d n (dmaC c (semQR k)) () = if d = dst σ c ∧ 16 - n ≤ k.val then NQ else 0
  | 0, _ => by rw [if_neg (fun h => by have := h.2; omega)]; rfl
  | n + 1, hn => by
    have h1 : dmaC c (semQR k) ≠ dmaC (dst σ d) (semSR (i16 (15 - n))) := fun h => by
      have h' : 20 + k.val = 52 + (15 - n) % 16 := congrArg Fin.val (cell_eq h).2
      omega
    have h2 : dmaC c (semQR k) = dmaC (dst σ d) (semQR (i16 (15 - n))) ↔ d = dst σ c ∧ k.val = 15 - n := by
      constructor
      · intro h
        have h' : 20 + k.val = 20 + (15 - n) % 16 := congrArg Fin.val (cell_eq h).2
        refine ⟨?_, by omega⟩
        rw [(cell_eq h).1, dst_dst]
      · rintro ⟨rfl, h⟩
        have : i16 (15 - n) = k := by rw [← h, i16_val]
        rw [this, dst_dst]
    unfold owedQ
    rw [Pi.add_apply, Finsupp.add_apply, Pi.add_apply, Finsupp.add_apply, tallyAt_apply, tallyAt_apply, owedQ_QR d c k n (by omega),
      if_neg (show ¬ (dmaC c (semQR k) = dmaC (dst σ d) (semSR (i16 (15 - n))) ∧ () = ()) from fun h => h1 h.1)]
    by_cases hd : d = dst σ c
    · by_cases hk : k.val = 15 - n
      · rw [if_neg (fun h => by have := h.2; omega), if_pos ⟨h2.mpr ⟨hd, hk⟩, rfl⟩, if_pos ⟨hd, by omega⟩, Nat.zero_add]
      · rw [if_neg (show ¬ (dmaC c (semQR k) = dmaC (dst σ d) (semQR (i16 (15 - n))) ∧ () = ()) from fun h => hk (h2.mp h.1).2), Nat.add_zero, Nat.add_zero]
        by_cases hk' : 16 - n ≤ k.val
        · rw [if_pos ⟨hd, hk'⟩, if_pos ⟨hd, by omega⟩]
        · rw [if_neg (fun h => hk' h.2), if_neg (fun h => by have := h.2; omega)]
    · rw [if_neg (fun h => hd h.1), if_neg (show ¬ (dmaC c (semQR k) = dmaC (dst σ d) (semQR (i16 (15 - n))) ∧ () = ()) from fun h => hd (h2.mp h.1).1), if_neg (fun h => hd h.1)]

theorem owedQ_SR (d c : Dev nD) (k : Fin 16) : ∀ n, n ≤ 16 → owedQ σ d n (dmaC c (semSR k)) () = if d = dst σ c ∧ 16 - n ≤ k.val then NS else 0
  | 0, _ => by rw [if_neg (fun h => by have := h.2; omega)]; rfl
  | n + 1, hn => by
    have h1 : dmaC c (semSR k) ≠ dmaC (dst σ d) (semQR (i16 (15 - n))) := fun h => by
      have h' : 52 + k.val = 20 + (15 - n) % 16 := congrArg Fin.val (cell_eq h).2
      omega
    have h2 : dmaC c (semSR k) = dmaC (dst σ d) (semSR (i16 (15 - n))) ↔ d = dst σ c ∧ k.val = 15 - n := by
      constructor
      · intro h
        have h' : 52 + k.val = 52 + (15 - n) % 16 := congrArg Fin.val (cell_eq h).2
        refine ⟨?_, by omega⟩
        rw [(cell_eq h).1, dst_dst]
      · rintro ⟨rfl, h⟩
        have : i16 (15 - n) = k := by rw [← h, i16_val]
        rw [this, dst_dst]
    unfold owedQ
    rw [Pi.add_apply, Finsupp.add_apply, Pi.add_apply, Finsupp.add_apply, tallyAt_apply, tallyAt_apply, owedQ_SR d c k n (by omega),
      if_neg (show ¬ (dmaC c (semSR k) = dmaC (dst σ d) (semQR (i16 (15 - n))) ∧ () = ()) from fun h => h1 h.1), Nat.add_zero]
    by_cases hd : d = dst σ c
    · by_cases hk : k.val = 15 - n
      · rw [if_neg (fun h => by have := h.2; omega), if_pos ⟨h2.mpr ⟨hd, hk⟩, rfl⟩, if_pos ⟨hd, by omega⟩, Nat.zero_add]
      · rw [if_neg (show ¬ (dmaC c (semSR k) = dmaC (dst σ d) (semSR (i16 (15 - n))) ∧ () = ()) from fun h => hk (h2.mp h.1).2), Nat.add_zero]
        by_cases hk' : 16 - n ≤ k.val
        · rw [if_pos ⟨hd, hk'⟩, if_pos ⟨hd, by omega⟩]
        · rw [if_neg (fun h => hk' h.2), if_neg (fun h => by have := h.2; omega)]
    · rw [if_neg (fun h => hd h.1), if_neg (show ¬ (dmaC c (semSR k) = dmaC (dst σ d) (semSR (i16 (15 - n))) ∧ () = ()) from fun h => hd (h2.mp h.1).1), if_neg (fun h => hd h.1)]

theorem O₀_QR (d c : Dev nD) (k : Fin 16) : O₀ σ d (dmaC c (semQR k)) () = if d = dst σ c then NQ else 0 := by
  unfold O₀
  rw [Pi.add_apply, Finsupp.add_apply, owedQ_QR σ d c k 16 le_rfl, tallyAt_ne_cell (fun h => by cases congrArg Prod.snd h), Finsupp.zero_apply, Nat.add_zero]
  exact if_congr ⟨fun h => h.1, fun h => ⟨h, by omega⟩⟩ rfl rfl
theorem O₀_SR (d c : Dev nD) (k : Fin 16) : O₀ σ d (dmaC c (semSR k)) () = if d = dst σ c then NS else 0 := by
  unfold O₀
  rw [Pi.add_apply, Finsupp.add_apply, owedQ_SR σ d c k 16 le_rfl, tallyAt_ne_cell (fun h => by cases congrArg Prod.snd h), Finsupp.zero_apply, Nat.add_zero]
  exact if_congr ⟨fun h => h.1, fun h => ⟨h, by omega⟩⟩ rfl rfl
theorem O₀_bar (d c : Dev nD) : O₀ σ d (barC c) () = if d = sw c then 1 else 0 := by
  have h0 : owedQ σ d 16 (barC c) () = 0 := by
    rcases Nat.eq_zero_or_pos (owedQ σ d 16 (barC c) ()) with h | h
    · exact h
    · obtain ⟨k, h' | h'⟩ := owedQ_pos σ d 16 h <;> cases congrArg Prod.snd h'
  unfold O₀
  rw [Pi.add_apply, Finsupp.add_apply, h0, tallyAt_apply, Nat.zero_add]
  refine if_congr ⟨fun h => ?_, fun h => ⟨by rw [h, sw_sw], rfl⟩⟩ rfl rfl
  have h1 : c = sw d := congrArg (fun g : GSem nD τ sig => g.1.1) h.1
  rw [h1, sw_sw]

/-- What is credited at launch to a cell that one device owes `N`. -/
theorem launch_of (g : GSem nD τ sig) (e : Dev nD) (N : ℕ) (h : ∀ d, O₀ σ d g () = if d = e then N else 0) :
    tallyOn g (launchCredit (Pipeline.owing (O₀ σ)) 0 g) = (tallyAt g () N : CellTallies nD τ sig Unit) := by
  unfold tallyAt; refine congrArg _ (Finsupp.ext fun u => ?_); cases u
  rw [Pipeline.launchCredit_owing, Finsupp.single_eq_same, Finset.sum_congr rfl fun d _ => h d, Finset.sum_ite_eq' Finset.univ e fun _ => N,
    if_pos (Finset.mem_univ _)]

theorem creds (c : Dev nD) :
    (Pipeline.launchCred (O₀ σ) c : sProp 𝕄) ⊢ iprop(cred (tallyAt (barC c) () 1) ∗ bigSep Finset.univ (credRow (F := F) c)) := by
  have hsub : (Pipeline.launchCred (O₀ σ) c : sProp 𝕄) ⊢ bigSep (Finset.univ.map ⟨csem, csem_injective⟩)
      fun sm : SemLoc sig => cred (tallyOn ((c : Thread nD τ), sm) (launchCredit (Pipeline.owing (O₀ σ)) 0 ((c : Thread nD τ), sm))) :=
    bigSep_subset (Finset.subset_univ _)
  refine hsub.trans ?_
  rw [bigSep_map]
  refine (Entails.of_eq (bigSep_csem (F := F) fun sm : SemLoc sig => cred (tallyOn ((c : Thread nD τ), sm) (launchCredit (Pipeline.owing (O₀ σ)) 0 ((c : Thread nD τ), sm))))).trans ?_
  rw [bigSep_own (F := F) fun sm : SemLoc sig => cred (tallyOn ((c : Thread nD τ), sm) (launchCredit (Pipeline.owing (O₀ σ)) 0 ((c : Thread nD τ), sm))),
    launch_of σ (barC c) (sw c) 1 (O₀_bar σ · c)]
  refine sep_mono_right ?_
  refine (show iprop(_ ∗ bigSep Finset.univ _) ⊢ bigSep Finset.univ _ from by iintro ⟨-, H⟩; iexact H).trans (bigSep_mono fun k _ => ?_)
  rw [launch_of σ (dmaC c (semQR k)) (dst σ c) NQ (O₀_QR σ · c k), launch_of σ (dmaC c (semSR k)) (dst σ c) NS (O₀_SR σ · c k)]
  show iprop(_ ∗ cred (tallyAt (dmaC c (semQR k)) () NQ) ∗ _ ∗ cred (tallyAt (dmaC c (semSR k)) () NS)) ⊢ credRow (F := F) c k
  unfold credRow
  iintro ⟨-, H, -, H'⟩
  isplitl [H] <;> iassumption

end Cert.KernelIdeal.Pf
-- ==== Proof.Run.lean ====
/-
# The run

The kernel launched on the eight devices: what the body is given and leaves per device, the launch theorem applied, and
the run's final state — the result array written whole from the staged result, both inputs unchanged, every semaphore at
zero.
-/
module

public import proofs.«01_k».proof.Proof.Cells
public import Idealize.ShloMosaic.Lib.Pipeline.CollectiveSegs

@[expose] public section

noncomputable section

namespace Cert.KernelIdeal.Pf

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (σ : Bool)

/-- What the pipeline stages: the table in, the result out, the body between its two invariants. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => tstg m c
    | ⟨1, _⟩ => outAt m σ c
  Φ t := match t with
    | ⟨0, _⟩ => Φ₀ m σ c
    | ⟨_ + 1, _⟩ => Φ₁ m c
  q _ := fullShare
  owed t := match t with
    | ⟨0, _⟩ => O₀ σ c
    | ⟨_ + 1, _⟩ => 0

theorem share_eq (c : Dev nD) (w : Fin cfg0.W) : (dats m ρ σ 0 c).share w = fullShare := by unfold Dat.share; split <;> rfl

/-! ## The body's obligation -/

abbrev stg (c : Dev nD) (b : Ref sig .tc) (f : Buf (Elt F) ((c : Thread nD τ).loc b)) : sProp 𝕄 := ((c : Thread nD τ).loc b) ↦{fullShare} f

/-- The table is staged before the point. -/
theorem table_staged (c : Dev nD) (d) : (dats m ρ σ 0 c).before (0 : Fin 2) t0_0 d = tstg m c := by
  unfold Dat.before
  rw [if_pos (show (cfg0.win (0 : Fin 2)).fetch t0_0 = true from rfl)]; rfl

def bodyPre (c : Dev nD) : sProp 𝕄 :=
  iprop(Φ₀ m σ c ∗ (dats m ρ σ 0 c).owesAt () t0_0.castSucc
    ∗ (∃ d, ∃ f, ⌜f = (dats m ρ σ 0 c).before (0 : Fin 2) t0_0 d⌝ ∗ stg c cc0_stg0_0 f)
    ∗ (∃ d, ∃ f, ⌜f = (dats m ρ σ 0 c).before (1 : Fin 2) t0_0 d⌝ ∗ stg c cc0_stg1_0 f))

def bodyPost (c : Dev nD) : sProp 𝕄 :=
  iprop(Φ₁ m c ∗ (dats m ρ σ 0 c).owesAt () t0_0.succ
    ∗ (∃ f, ⌜f = tstg m c⌝ ∗ stg c cc0_stg0_0 f)
    ∗ (∃ f, ⌜f = outAt m σ c⌝ ∗ stg c cc0_stg1_0 f))

theorem owes_in (c : Dev nD) : (dats m ρ σ 0 c).owesAt () t0_0.castSucc ⊢ (owing c (O₀ σ c) : sProp 𝕄) := by
  unfold Dat.owesAt Pipeline.owesWithin owing
  rw [show (dats m ρ σ 0 c).owed t0_0.castSucc = O₀ σ c from rfl]
  iintro ⟨%W, %hW, HO⟩
  iexists W; iexact HO

theorem owes_out (c : Dev nD) : (owing c 0 : sProp 𝕄) ⊢ (dats m ρ σ 0 c).owesAt () t0_0.succ := by
  unfold Dat.owesAt Pipeline.owesWithin owing
  rw [show (dats m ρ σ 0 c).owed t0_0.succ = 0 from rfl]
  iintro ⟨%W, HO⟩
  iexists W
  isplitr; · ipureintro; exact fun _ _ => Or.inl trivial
  iexact HO

theorem ends_post (c : Dev nD) : ends m σ c ⊢ bodyPost m ρ σ c := by
  unfold ends bodyPost
  iintro ⟨HΦ, HO, Hx, Hy⟩
  ihave HO := (owes_out m ρ σ c) $$ HO
  isplitl [HΦ]; · iexact HΦ
  isplitl [HO]; · iexact HO
  isplitl [Hx]
  · iexists (tstg m c); isplitr; · (ipureintro; rfl)
    iexact Hx
  iexists (outAt m σ c); isplitr; · (ipureintro; rfl)
  iexact Hy

theorem body_run (h : PreOK m σ) (c : Dev nD) : bodyPre m ρ σ c ⊢ run c body fun _ => bodyPost m ρ σ c := by
  unfold bodyPre Φ₀ start
  iintro ⟨⟨⟨⟨%K, Hg⟩, Hb⟩, Hs⟩, HO, ⟨%d, %f, %hf, Hx⟩, ⟨%d', %g, %hg, Hy⟩⟩
  rw [table_staged] at hf
  subst hf
  ihave HO := (owes_in m ρ σ c) $$ HO
  iapply (sound_body m σ K c h _ fun _ => bodyPost m ρ σ c) $$ [Hg Hb Hs HO Hx Hy]
  · isplitl [Hg]; · iexact Hg
    isplitl [Hb]; · iexact Hb
    isplitl [Hs]; · iexact Hs
    isplitl [HO]; · iexact HO
    isplitl [Hx]; · iexact Hx
    iexact Hy
  iintro H
  iapply (ends_post m ρ σ c); iexact H

set_option maxRecDepth 60000 in
theorem body_obligation (h : PreOK m σ) (c : Dev nD) : BodyObligation (dats (F := F) m ρ σ 0 c) (defs₀ (F := F)) 𝒱₀ () Set.univ := fun t => by
  rw [fin_N0 t]
  rw [bigSep_W0, bigSep_W0]
  simp only [owns_whole_eq]
  show bodyPre m ρ σ c ⊢ run c (cc0_body xM (Memref.isWhole_whole _) tM (Memref.isWhole_whole _) oM (Memref.isWhole_whole _)
    bM (Memref.isWhole_whole _) qsM (Memref.isWhole_whole _) ssM (Memref.isWhole_whole _) qrM (Memref.isWhole_whole _)
    srM (Memref.isWhole_whole _) cc0_scratch5 cc0_scratch6 cc0_scratch7 cc0_scratch8 cc0_scratch9) fun _ => bodyPost m ρ σ c
  rw [body_eq]
  exact body_run m ρ σ h c

/-! ## The launch's side conditions -/

theorem start_intro (c : Dev nD) :
    iprop(Pipeline.unscopedRestP Pipeline.Prefetch.none cfg0.spec c (fun b => m ((c : Thread nD τ).loc b)) ∗ levAts L lv
        ∗ Pipeline.launchCred (O₀ σ) c ∗ prngReg c (ρ c) ∗ G' m σ c)
      ⊢ |={Set.univ}=> (iprop(start m σ c ∗ emp) : sProp 𝕄) := by
  rw [Pipeline.unscopedRestP_none, unscopedRest0_eq]
  unfold start begins G'
  iintro ⟨HX, Hlev, Hcr, -, HG⟩
  ihave Hc := (creds (F := F) σ c) $$ Hcr
  icases Hc with ⟨H1, HN⟩
  imodintro
  isplitl
  · isplitl [HG]; · iexact HG
    isplitl [H1]; · iexact H1
    isplitl [HN]; · iexact HN
    isplitl [Hlev]; · iexact Hlev
    iexact HX
  · iempintro

theorem phi0_intro (c : Dev nD) :
    iprop(start m σ c ∗ Pipeline.prefHeld Pipeline.Prefetch.none c (fun _ => fullShare.right) (fun k => k.elim0) ∗ Pipeline.scopedRest cfg0.spec c)
      ⊢ (dats m ρ σ 0 c).Φ 0 := by
  rw [show (dats m ρ σ 0 c).Φ 0 = Φ₀ m σ c from rfl, scopedRest0_eq]
  unfold Φ₀ scratch held
  iintro ⟨Hs, -, Hr⟩
  isplitl [Hs]; · iexact Hs
  iexact Hr

/-- What the launch keeps of a device: its barrier's counter, and `x`. -/
def kept (c : Dev nD) : sProp 𝕄 :=
  iprop(unscopedSems0 c ∗ ((c : Thread nD τ).loc main_arg0 ↦{fullShare} m ((c : Thread nD τ).loc main_arg0)))

theorem phi1_exit (c : Dev nD) :
    (dats m ρ σ 0 c).Φ (Fin.last cfg0.N) ⊢ iprop(kept m c ∗ Pipeline.ownSems0 osem c ∗ Pipeline.scopedRest cfg0.spec c) := by
  rw [show (dats m ρ σ 0 c).Φ (Fin.last cfg0.N) = Φ₁ m c from rfl, scopedRest0_eq]
  unfold Φ₁ kept scratch held
  rw [unscopedSems0_eq]
  iintro ⟨HX, Hr, Hz, HB⟩
  isplitl [HX HB]
  · isplitl [HB]; · iexact HB
    iexact HX
  isplitl [Hz]; · iapply (Entails.of_eq (ownZero_eq (F := F) c).symm); iexact Hz
  iexact Hr

/-- The staging semaphores sit below everything the kernel owes. -/
theorem lv_stage (c : Dev nD) (w : Fin cfg0.W) (s : Fin (cfg0.win w).nbuf) : lv ((c : Thread nD τ), .dma ((cfg0.win w).sem s)) () ≤ 0 := by
  have h : ((cfg0.win w).sem s).val < 20 := by revert s; revert w; decide
  exact (if_neg (show ¬ (20 ≤ ((cfg0.win w).sem s).val ∧ ((cfg0.win w).sem s).val < 36 ∨ 52 ≤ ((cfg0.win w).sem s).val) by omega)).le

theorem waits (c : Dev nD) : (levAts L lv : sProp 𝕄) ⊢ Pipeline.cellsWaits cfgs (dats m ρ σ) () 0 c :=
  Pipeline.cellsWaits_intro cfgs (dats m ρ σ) () 0 c fun w s t => by
    rcases t with ⟨_ | _, ht⟩
    · exact mayWait_of 0 (lv_stage c w s) (O₀_level σ c)
    · rw [show (dats m ρ σ 0 c).owed ⟨_ + 1, ht⟩ = 0 from rfl, MayWait_zero]
      iintro -; iempintro

/-! ## The run -/

def finalA (c : Dev nD) (w : Fin cfg0.W) : Buf (Elt F) ((cfg0.win w).arr.view.loc (c : Thread nD τ)) := (dats m ρ σ 0 c).arrAt w cfg0.N

/-- The final state by device: each window's array, and `x`. -/
def QC : PUnit × MemSt nD τ sig (Elt F) → Prop := fun r => ∀ c : Dev nD,
  (∀ w : Fin cfg0.W, r.2.mem ((cfg0.win w).arr.view.loc (c : Thread nD τ)) = finalA m ρ σ c w)
    ∧ r.2.mem ((c : Thread nD τ).loc main_arg0) = m ((c : Thread nD τ).loc main_arg0)

theorem kept_read (c : Dev nD) (s' : Phys nD τ sig (Elt F)) :
    iprop(kept m c ∗ SI s') ⊢ (|={Set.univ}=> iprop(⌜s'.mem.mem ((c : Thread nD τ).loc main_arg0) = m ((c : Thread nD τ).loc main_arg0)
      ∧ ∀ sm : SemLoc sig, sm.isScoped .tc = false → s'.mem.sem ((c.tc : Thread nD τ), sm) = 0⌝ ∗ SI s') : sProp 𝕄) := by
  unfold kept
  iintro ⟨⟨Hu, HX⟩, HSI⟩
  imod (Pipeline.unscopedSems0_read (X := unscopedSems0 c) (c := c) fupd_intro s') $$ [Hu HSI] with ⟨%hs, HSI⟩
  · isplitl [Hu] <;> iassumption
  icombine HSI HX gives %hx
  imodintro
  isplitr
  · ipureintro; exact ⟨Buf.eq_of_forall_mem_univ hx, hs⟩
  iexact HSI

set_option maxRecDepth 60000 in
/-- From any memory with zero counters whose table is as pinned, every weakly fair execution of the program on the eight
    devices terminates, each at the computed contents with both inputs unchanged and every semaphore at zero. -/
theorem run_main (h : PreOK m σ) : θ_run defs (onTc (τ := τ) (main (F := F))) (s₀ m ρ) (fun r => QC m ρ σ r ∧ r.2.sem = fun _ => 0) :=
  Pipeline.θ_run_region_owing_glob_pf (fun p => (cfgs p).toPCfg) (fun p => (cfgs p).toPCfg_adm) (dats m ρ σ) () cellOf_inj (0 : Fin 1)
    winFacts0.to₀ ownSemFacts (Pipeline.PreFacts.none _) EP defs₀ 𝒱₀ m ρ main
    (hmain := fun _ => rfl)
    (hbody := body_obligation m ρ σ h) (hne := block_pos0) (harr := arr_whole0) (hstage := stage_whole0) (hshare := share_eq m ρ σ)
    (hdistinct := winFacts0.arr_inj)
    (O₀ := O₀ σ) (howed₀ := fun _ => rfl) (howedN := fun _ => rfl)
    (L := L) (lv := lv) (hL := L_of_ne) (hwaits := waits m ρ σ)
    (G := G m σ) (G' := G' m σ) (u₀ := u₀)
    (hu₀ := by
      unfold u₀
      iintro Hu
      ihave H := (ownU_pair _ _) $$ Hu
      icases H with ⟨HP, HX⟩
      imod (fund_cells m σ) $$ HX with HG
      imodintro
      isplitl [HP] <;> iassumption)
    (hglob := glob m σ)
    (hA := fun _ _ => rfl) (hpf := fun _ k => k.elim0)
    (X := start m σ) (Y := kept m) (Z := fun _ => iprop(emp))
    (hX := start_intro m ρ σ) (hin := phi0_intro m ρ σ) (hout := phi1_exit m ρ σ)
    (QY := fun c s => s.mem ((c : Thread nD τ).loc main_arg0) = m ((c : Thread nD τ).loc main_arg0)
      ∧ ∀ sm : SemLoc sig, sm.isScoped .tc = false → s.sem ((c.tc : Thread nD τ), sm) = 0)
    (hY := fun c s' => by
      iintro ⟨Hu, -, HSI⟩
      iapply (kept_read m c s')
      isplitl [Hu] <;> iassumption)
    (hQ := fun _ h hs => ⟨fun c => ⟨(h c).1, (h c).2.2.1⟩, sem_eq_zero hs fun c => (h c).2.2.2⟩)

/-- The table's array after the run holds what it held. -/
theorem finalA_table (c : Dev nD) : finalA m ρ σ c (0 : Fin 2) = m ((c : Thread nD τ).loc main_arg1) :=
  (dats (F := F) m ρ σ 0 c).arrAt_in (0 : Fin 2) rfl _

end Cert.KernelIdeal.Pf
-- ==== Proof.Frames.lean ====
/-
# The frames

What each of the two preconditions says of the table, and that the program and the reference end with their arguments
unchanged and every semaphore at zero.
-/
module

public import proofs.«01_k».proof.Defs
public import proofs.«01_k».proof.Proof.Run
public import proofs.«01_k».proof.Proof.Gen.Kernel
public import proofs.«01_k».proof.Proof.Gen.ReferenceIdeal
public import proofs.«01_k».proof.Proof.Gen.ReferenceIdeal.Run
public import proofs.«01_k».proof.Proof.Gen.Pre_swapped_Kernel
public import proofs.«01_k».proof.Proof.Gen.Pre_kept_Kernel
public import proofs.«01_k».proof.Proof.Gen.Pre_swapped_ReferenceIdeal
public import proofs.«01_k».proof.Proof.Gen.Pre_kept_ReferenceIdeal
public import Idealize.ShloMosaic.Lib.Pipeline.Value
public import Idealize.ShloMosaic.Lib.Quiescent

@[expose] public section

noncomputable section

namespace Cert.KernelIdeal.Pf

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The preconditions -/

/-- A one-element slice of the table, read as a scalar, is the word at its offset. -/
theorem word_of_slice (off : Fin 1 → Nat) (t : IVec S2 32) (h : S2.Slices off S1) (h' : S1.ShapeCasts S_) (j : S_.Idx) (k : S2.Idx)
    (hk : (k 0).val = off 0) : shapeCast S_ (extractStridedSlice S1 off t h) h' j = t k := by
  unfold shapeCast
  refine extractStridedSlice_apply off t h _ k fun a => ?_
  have one : ∀ y : S1.Idx, (y 0).val = 0 := fun y => Nat.lt_one_iff.mp (y 0).isLt
  obtain rfl : a = 0 := Fin.fin_one_eq_zero a
  exact hk.trans (congrArg (off 0 + ·) (one _).symm)

theorem bit_of_and {x y : BitVec 1} (h : x &&& y = 1#1) : x = 1#1 ∧ y = 1#1 := by
  revert x y; decide

theorem eq_of_bit {x y : BitVec 32} (h : IntOp.cmpi .eq x y = 1#1) : x = y := by
  have h' : BitVec.ofBool (x == y) = 1#1 := h
  by_contra hne
  rw [beq_eq_false_iff_ne.mpr hne] at h'
  exact absurd h' (by decide)

/-- Entry `n` of the table. -/
def entry (n : Fin 2) : S2.Idx := fun a => match a with
  | ⟨0, _⟩ => n

/-- A table is its two words. -/
theorem table_ext {t : IVec S2 32} {g : Nat → BitVec 32} (h0 : t (entry 0) = g 0) (h1 : t (entry 1) = g 1) (i : S2.Idx) : t i = g (i 0).val := by
  have hi : i = entry (i 0) := funext fun a => by obtain rfl : a = 0 := Fin.fin_one_eq_zero a; rfl
  have : ∀ n : Fin 2, t (entry n) = g n.val := by
    intro n
    match n with
    | ⟨0, _⟩ => exact h0
    | ⟨1, _⟩ => exact h1
  exact (congrArg t hi).trans (this (i 0))

/-- The first precondition says the table is `[1, 0]`. -/
theorem table_swapped {x : FVec F S1x2048x1024 .f32} {t : IVec S2 32} (h : Cert.Pre_swapped_Kernel.fn (F := F) x t = fun _ => 1#1) (i : S2.Idx) :
    t i = BitVec.ofNat 32 (1 - (i 0).val) := by
  obtain ⟨e0, e1⟩ := bit_of_and (congrFun h (fun a => a.elim0))
  refine table_ext (g := fun n => BitVec.ofNat 32 (1 - n)) ?_ ?_ i
  · exact (word_of_slice ![0] t _ _ _ (entry 0) rfl).symm.trans (eq_of_bit e0)
  · exact (word_of_slice ![1] t _ _ _ (entry 1) rfl).symm.trans (eq_of_bit e1)

/-- The second says it is `[0, 1]`. -/
theorem table_kept {x : FVec F S1x2048x1024 .f32} {t : IVec S2 32} (h : Cert.Pre_kept_Kernel.fn (F := F) x t = fun _ => 1#1) (i : S2.Idx) :
    t i = BitVec.ofNat 32 (i 0).val := by
  obtain ⟨e0, e1⟩ := bit_of_and (congrFun h (fun a => a.elim0))
  refine table_ext (g := fun n => BitVec.ofNat 32 n) ?_ ?_ i
  · exact (word_of_slice ![0] t _ _ _ (entry 0) rfl).symm.trans (eq_of_bit e0)
  · exact (word_of_slice ![1] t _ _ _ (entry 1) rfl).symm.trans (eq_of_bit e1)

/-! ## The frames -/

variable (m : (ℓ : Loc nD τ sig) → Buf (Elt F) ℓ) (ρ : Dev nD → PrngReg) (σ : Bool)

/-- The run read at the two arguments and the counters. -/
theorem run_args (h : PreOK m σ) : θ_run defs (onTc (τ := τ) (main (F := F))) ⟨m, fun _ => 0, ρ⟩ (fun r => (∀ c : Dev nD,
    r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  (θ_run defs _ _).mono (fun _ h => ⟨fun c => ⟨(h.1 c).2, ((h.1 c).1 (0 : Fin 2)).trans (finalA_table m ρ σ c)⟩, h.2⟩) (run_main m ρ σ h)

/-- The program as stated for words and as stated for extended reals is one text: the kernel's body, the body table and the
    program of the one are those of the other at the same floats. -/
theorem same_body : Cert.Kernel.cc0_body (F := F) = cc0_body (F := F) := rfl

theorem same_defs₀ : Cert.Kernel.defs₀ (F := F) = defs₀ (F := F) := by
  unfold Cert.Kernel.defs₀ defs₀
  refine congrArg Defs.onTc (funext fun l => funext fun a => ?_)
  match l, a with
  | ⟨0, _⟩, (t, s) => rfl

theorem same_defs : Cert.Kernel.defs (F := F) = defs (F := F) := by
  unfold Cert.Kernel.defs defs
  rw [same_defs₀]; rfl

theorem frame_swapped : Cert.quiescent_Kernel := by
  intro m ρ hm
  rw [same_defs]
  exact run_args (F := Bits) m ρ true (fun c i => table_swapped (hm c) i)

theorem frame_kept : Cert.quiescent_Kernel_pre_kept_Kernel := by
  intro m ρ hm
  rw [same_defs]
  exact run_args (F := Bits) m ρ false (fun c i => table_kept (hm c) i)

theorem frame_ideal_swapped : Cert.quiescent_KernelIdeal := fun m ρ hm =>
  run_args (F := Ideal) m ρ true (fun c i => table_swapped (hm c) i)

theorem frame_ideal_kept : Cert.quiescent_KernelIdeal_pre_kept_Kernel := fun m ρ hm =>
  run_args (F := Ideal) m ρ false (fun c i => table_kept (hm c) i)

/-- The reference declares no semaphore and writes no argument. -/
theorem frame_ref (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩
      (fun r => (∀ c : Dev Cert.ReferenceIdeal.nD,
        r.2.mem ((c.tc : Thread Cert.ReferenceIdeal.nD Cert.ReferenceIdeal.τ).loc Cert.ReferenceIdeal.main_arg0)
            = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1)
            = m ((c.tc : Thread Cert.ReferenceIdeal.nD Cert.ReferenceIdeal.τ).loc Cert.ReferenceIdeal.main_arg1)) ∧ r.2.sem = fun _ => 0) :=
  (θ_run Cert.ReferenceIdeal.defs _ _).mono (fun r h => ⟨fun c => (h c).2, sem_eq_zero_of_no_sems (by decide) r.2⟩)
    (Cert.ReferenceIdeal.Value.run m ρ)

end Cert.KernelIdeal.Pf
-- ==== Proof.Quant.lean ====
/-
# One element of the quantiser

A row of extended reals with absolute maximum `a`, floored at a positive number: each element `x` of the row is scaled by
`127 / a`, rounded to the nearest integer, stored in eight bits and scaled back. The reference clips the rounded value to
`[-127, 127]` and narrows it from 32 bits to 8; here both are shown to leave the same eight-bit integer, since the rounded
value lies in `[-127, 127]` already.
-/
module

public import Idealize.ShloMosaic.PureOps.Ideal
public import Idealize.ShloMosaic.PureOps.Ideal.Laws
public import Mathlib.Tactic.NormNum
public import Mathlib.Tactic.Linarith

@[expose] public section

noncomputable section

namespace Cert.KernelIdeal.Pf

open Idealize.ShloMosaic

/-! ## The constants -/

theorem word_127 : Ideal.ofBits .f32 0x42FE0000#32 = ((127 : ℝ) : EReal) := by
  simp [Ideal.ofBits, Ideal.ieee]
  rw [← EReal.coe_mul, EReal.coe_eq_coe_iff]; norm_num

theorem word_neg127 : Ideal.ofBits .f32 0xC2FE0000#32 = ((-127 : ℝ) : EReal) := by
  simp [Ideal.ofBits, Ideal.ieee]
  rw [← EReal.coe_mul, EReal.coe_eq_coe_iff]; norm_num

theorem word_floor_pos : (0 : EReal) < Ideal.ofBits .f32 0x0DA24260#32 := by
  simp [Ideal.ofBits, Ideal.ieee]
  rw [← EReal.coe_mul]
  exact EReal.coe_pos.mpr (by positivity)

/-! ## The rounded value is an integer of `[-127, 127]` -/

/-- Rounding to nearest even keeps an interval between integers. -/
theorem round_le {r : ℝ} {n : ℤ} (h : r ≤ n) : Ideal.roundHalfEven r ≤ n := by
  have h0 : ⌊r⌋ ≤ n := by exact_mod_cast (Int.floor_le r).trans h
  have h1 : ¬ r - ⌊r⌋ < 1 / 2 → ⌊r⌋ + 1 ≤ n := by
    intro hf
    have : (⌊r⌋ : ℝ) < (n : ℝ) := by linarith
    have : ⌊r⌋ < n := by exact_mod_cast this
    omega
  unfold Ideal.roundHalfEven
  dsimp only
  split
  · exact h0
  · split
    · exact h1 ‹_›
    · split
      · exact h0
      · exact h1 ‹_›

theorem le_round {r : ℝ} {n : ℤ} (h : (n : ℝ) ≤ r) : n ≤ Ideal.roundHalfEven r := by
  have h0 : n ≤ ⌊r⌋ := Int.le_floor.mpr h
  unfold Ideal.roundHalfEven
  dsimp only
  split_ifs <;> omega

/-- The scaled element is a real of `[-127, 127]`. -/
theorem scaled_mem {x a : EReal} (ha : 0 < a) (hx : max x (-x) ≤ a) :
    ∃ r : ℝ, x * Ideal.div ((127 : ℝ) : EReal) a = (r : EReal) ∧ -127 ≤ r ∧ r ≤ 127 := by
  obtain ⟨h1, h2⟩ := max_le_iff.mp hx
  rw [show Ideal.div ((127 : ℝ) : EReal) a = ((127 : ℝ) : EReal) * a⁻¹ from if_neg ha.ne']
  induction a with
  | bot => exact absurd ha not_lt_bot
  | top => exact ⟨0, by simp, by norm_num, by norm_num⟩
  | coe a =>
    have ha' : 0 < a := EReal.coe_pos.mp ha
    induction x with
    | bot => rw [EReal.neg_bot] at h2; exact absurd h2 (not_le.mpr (EReal.coe_lt_top a))
    | top => exact absurd h1 (not_le.mpr (EReal.coe_lt_top a))
    | coe x =>
      have e1 : x ≤ a := EReal.coe_le_coe_iff.mp h1
      have e2 : -x ≤ a := by rw [← EReal.coe_neg] at h2; exact EReal.coe_le_coe_iff.mp h2
      have e : x * (127 * a⁻¹) = 127 * x / a := by field_simp
      refine ⟨x * (127 * a⁻¹), by rw [← EReal.coe_inv, ← EReal.coe_mul, ← EReal.coe_mul], ?_, ?_⟩
      · rw [e, le_div_iff₀ ha']; linarith
      · rw [e, div_le_iff₀ ha']; linarith

/-- The rounded element is an integer of `[-127, 127]`. -/
theorem rounded_mem {x a : EReal} (ha : 0 < a) (hx : max x (-x) ≤ a) :
    ∃ n : ℤ, Ideal.liftRound Ideal.roundHalfEven (x * Ideal.div ((127 : ℝ) : EReal) a) = ((n : ℝ) : EReal) ∧ -127 ≤ n ∧ n ≤ 127 := by
  obtain ⟨r, hr, h1, h2⟩ := scaled_mem ha hx
  refine ⟨Ideal.roundHalfEven r, by rw [hr]; rfl, le_round (by push_cast; exact h1), round_le (by push_cast; exact h2)⟩

/-! ## The two ways to eight bits -/

theorem toInt_ofInt_8 {n : ℤ} (h1 : -127 ≤ n) (h2 : n ≤ 127) : (BitVec.ofInt 8 n).toInt = n := by
  rw [BitVec.toInt_ofInt, Int.bmod_def]; split <;> omega

theorem toInt_ofInt_32 {n : ℤ} (h1 : -127 ≤ n) (h2 : n ≤ 127) : (BitVec.ofInt 32 n).toInt = n := by
  rw [BitVec.toInt_ofInt, Int.bmod_def]; split <;> omega

theorem clamp_int (lo hi n : ℤ) (h1 : lo ≤ n) (h2 : n ≤ hi) : Ideal.toIntClamped lo hi ((n : ℝ) : EReal) = n := by
  show max lo (min hi (if 0 ≤ (n : ℝ) then ⌊(n : ℝ)⌋ else ⌈(n : ℝ)⌉)) = n
  rw [Int.floor_intCast, Int.ceil_intCast, ite_self, min_eq_right h2, max_eq_right h1]

theorem fptosi_8 {n : ℤ} (h1 : -127 ≤ n) (h2 : n ≤ 127) : Ideal.fptosi 8 ((n : ℝ) : EReal) = BitVec.ofInt 8 n := by
  unfold Ideal.fptosi
  rw [clamp_int _ _ n (by norm_num; omega) (by norm_num; omega)]

theorem fptosi_32 {n : ℤ} (h1 : -127 ≤ n) (h2 : n ≤ 127) : Ideal.fptosi 32 ((n : ℝ) : EReal) = BitVec.ofInt 32 n := by
  unfold Ideal.fptosi
  rw [clamp_int _ _ n (by norm_num; omega) (by norm_num; omega)]

/-- The clip leaves such an integer. -/
theorem clip_id {n : ℤ} (h1 : -127 ≤ n) (h2 : n ≤ 127) :
    min ((127 : ℝ) : EReal) (max ((-127 : ℝ) : EReal) ((n : ℝ) : EReal)) = ((n : ℝ) : EReal) := by
  have e1 : ((-127 : ℝ) : EReal) ≤ ((n : ℝ) : EReal) := EReal.coe_le_coe_iff.mpr (by exact_mod_cast h1)
  have e2 : ((n : ℝ) : EReal) ≤ ((127 : ℝ) : EReal) := EReal.coe_le_coe_iff.mpr (by exact_mod_cast h2)
  rw [max_eq_right e1, min_eq_right e2]

/-- Narrowing 32 bits to 8 and widening again leaves such an integer. -/
theorem narrow_widen {n : ℤ} (h1 : -127 ≤ n) (h2 : n ≤ 127) :
    (((BitVec.ofInt 32 n).setWidth 8).signExtend 32).toInt = n := by
  have e : (BitVec.ofInt 32 n).setWidth 8 = BitVec.ofInt 8 n := by
    apply BitVec.eq_of_toNat_eq
    rw [BitVec.toNat_setWidth, BitVec.toNat_ofInt, BitVec.toNat_ofInt]
    omega
  rw [e, BitVec.toInt_signExtend_of_le (by decide), toInt_ofInt_8 h1 h2]

/-! ## A row -/

/-- The maximum absolute value of a row, floored. -/
def rowMax (v : Fin 1024 → EReal) : EReal :=
  max ((Finset.univ : Finset (Fin 1024)).fold max (Ideal.ofBits .f32 0xFF800000#32) (fun k => max (v k) (-(v k)))) (Ideal.ofBits .f32 0x0DA24260#32)

theorem rowMax_pos (v : Fin 1024 → EReal) : 0 < rowMax v := word_floor_pos.trans_le (le_max_right _ _)

theorem le_rowMax (v : Fin 1024 → EReal) (j : Fin 1024) : max (v j) (-(v j)) ≤ rowMax v :=
  le_max_of_le_left (Finset.le_fold_max _ |>.mpr (Or.inr ⟨j, Finset.mem_univ j, le_rfl⟩))

/-- The rounded, scaled element `j` of a row. -/
def level (v : Fin 1024 → EReal) (j : Fin 1024) : EReal :=
  Ideal.liftRound Ideal.roundHalfEven (v j * Ideal.div (Ideal.ofBits .f32 0x42FE0000#32) (rowMax v))

/-- Element `j` of a row quantised and restored. -/
def restored (v : Fin 1024 → EReal) (j : Fin 1024) : EReal :=
  (((Ideal.fptosi 8 (level v j)).toInt : ℝ) : EReal) * (rowMax v * Ideal.ofBits .f32 0x3C010204#32)

/-- Clipping to `[-127, 127]` and narrowing from 32 bits leaves the integer the direct conversion to 8 bits leaves. -/
theorem clipped_eq (v : Fin 1024 → EReal) (j : Fin 1024) :
    (((Ideal.fptosi 32 (min (Ideal.ofBits .f32 0x42FE0000#32) (max (Ideal.ofBits .f32 0xC2FE0000#32) (level v j)))).setWidth 8).signExtend 32).toInt
      = (Ideal.fptosi 8 (level v j)).toInt := by
  obtain ⟨n, hn, h1, h2⟩ := rounded_mem (rowMax_pos v) (le_rowMax v j)
  have e : level v j = ((n : ℝ) : EReal) := by unfold level; rw [word_127]; exact hn
  rw [e, word_127, word_neg127, clip_id h1 h2, fptosi_32 h1 h2, narrow_widen h1 h2, fptosi_8 h1 h2, toInt_ofInt_8 h1 h2]

end Cert.KernelIdeal.Pf
-- ==== Proof.KernelValue.lean ====
/-
# What the kernel computes, element by element

The two payloads of a chunk read at one element: the quantised word and the scale of its row, and the product of the two
that the result holds. Each result element of device `c` is its row of the block of `dst c`, quantised and restored.
-/
module

public import proofs.«01_k».proof.Proof.Run
public import proofs.«01_k».proof.Proof.Quant
public import proofs.«01_k».proof.Proof.Gen.KernelIdeal.Points
public import Idealize.ShloMosaic.Lib.Pipeline.Value

@[expose] public section

noncomputable section

namespace Cert.KernelIdeal.Pf

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! ## Indices -/

/-- Row `p`, lane `t` of a chunk without its unit axis. -/
def cell (p : Fin 128) (t : Fin 1024) : S128x1024.Idx := fun a => match a with
  | ⟨0, _⟩ => p
  | ⟨1, _⟩ => t
/-- The same with the unit axis. -/
def cell3 (p : Fin 128) (t : Fin 1024) : S1x128x1024.Idx := fun a => match a with
  | ⟨0, _⟩ => (0 : Fin 1)
  | ⟨1, _⟩ => p
  | ⟨2, _⟩ => t
def row (p : Fin 128) : S128.Idx := fun a => match a with
  | ⟨0, _⟩ => p
def rowL (p : Fin 128) : S128x1.Idx := fun a => match a with
  | ⟨0, _⟩ => p
  | ⟨1, _⟩ => (0 : Fin 1)
def rowU (p : Fin 128) : S1x128.Idx := fun a => match a with
  | ⟨0, _⟩ => (0 : Fin 1)
  | ⟨1, _⟩ => p

section
variable {α : Type} (p : Fin 128) (t : Fin 1024)

theorem drop3 (v : S1x128x1024.Idx → α) (h) : shapeCast S128x1024 v h (cell p t) = v (cell3 p t) :=
  shapeCast_apply v h _ _ (by
    rw [Shape.rowMajor_val_three, Shape.rowMajor_val_two]
    show (0 * 128 + p.val) * 1024 + t.val = p.val * 1024 + t.val
    omega)

theorem add3 (v : S128x1024.Idx → α) (h) : shapeCast S1x128x1024 v h (cell3 p t) = v (cell p t) :=
  shapeCast_apply v h _ _ (by
    rw [Shape.rowMajor_val_three, Shape.rowMajor_val_two]
    show p.val * 1024 + t.val = (0 * 128 + p.val) * 1024 + t.val
    omega)

theorem toCol (v : S128.Idx → α) (h) : shapeCast S128x1 v h (rowL p) = v (row p) :=
  shapeCast_apply v h _ _ (by
    rw [Shape.rowMajor_val_one, Shape.rowMajor_val_two]
    show p.val = p.val * 1 + 0
    omega)

theorem ofCol (v : S128x1.Idx → α) (h) : shapeCast S128 v h (row p) = v (rowL p) :=
  shapeCast_apply v h _ _ (by
    rw [Shape.rowMajor_val_one, Shape.rowMajor_val_two]
    show p.val * 1 + 0 = p.val
    omega)

theorem toUnit (v : S128.Idx → α) (h) : shapeCast S1x128 v h (rowU p) = v (row p) :=
  shapeCast_apply v h _ _ (by
    rw [Shape.rowMajor_val_one, Shape.rowMajor_val_two]
    show p.val = 0 * 128 + p.val
    omega)

theorem ofUnit (v : S1x128.Idx → α) (h) : shapeCast S128 v h (row p) = v (rowU p) :=
  shapeCast_apply v h _ _ (by
    rw [Shape.rowMajor_val_one, Shape.rowMajor_val_two]
    show 0 * 128 + p.val = p.val
    omega)

theorem alongLanes (v : S128x1.Idx → α) (h) : broadcastTo S128x1024 v h (cell p t) = v (rowL p) :=
  broadcastTo_apply v h _ _ (by
    intro a
    match a with
    | ⟨0, _⟩ => rfl
    | ⟨1, _⟩ => rfl)

end

/-! ## The payloads -/

variable (w : Vec Ideal S1x128x1024 .f32) (p : Fin 128) (t : Fin 1024)

/-- Row `p` of a chunk. -/
def rowOf : Fin 1024 → EReal := fun k => w (cell3 p k)

theorem lift_cell (k : Fin 1024) : reduces_S128x1024_S128.lift (row p) k = cell p k := by
  funext a
  match a with
  | ⟨0, _⟩ => rfl
  | ⟨1, _⟩ => rfl

/-- The maximum over a row of a chunk. -/
theorem fold_at (x : FVec Ideal S128x1024 .f32) (hφ : FKind.Formats .f32) (hacc) :
    multiReduction .maximumf [1] S128 x 0xFF800000#32 reduces_S128x1024_S128 hφ hacc (row p)
      = (Finset.univ : Finset (Fin 1024)).fold max (Ideal.ofBits .f32 0xFF800000#32) (fun k => x (cell p k)) :=
  (Ideal.multiReduction_maximumf_single x _ _ hφ hacc (row p)).trans
    (Finset.fold_congr fun k _ => congrArg x (lift_cell p k))

/-- The row's maximum, as the kernel takes it. -/
theorem max_at : k0_pay3 w (rowL p) = rowMax (rowOf w p) := by
  unfold k0_pay3
  refine congrArg (fun x : EReal => max x (Ideal.ofBits .f32 0x0DA24260#32)) ?_
  refine (toCol p _ _).trans ((fold_at p _ _ _).trans (Finset.fold_congr fun k _ => ?_))
  exact congrArg (fun x : EReal => max x (-x)) (drop3 p k w _)

/-- A scalar over a column, divided elementwise. -/
theorem div_at (b : BitVec 32) (a : FVec Ideal S128x1 .f32) (k : S128x1.Idx) :
    divf (broadcast S128x1 (Scalar.ofBits (F := Ideal) .f32 b)) a k = Ideal.div (Ideal.ofBits .f32 b) (a k) := rfl

/-- Rounding and conversion act element by element. -/
theorem round_at (a b : FVec Ideal S128x1024 .f32) (k : S128x1024.Idx) :
    fptosi 8 (roundeven (mulf a b)) k = Ideal.fptosi 8 (Ideal.liftRound Ideal.roundHalfEven ((a k : EReal) * b k)) := rfl

/-- So do widening, scaling and the change of format. -/
theorem scaled_at (a : IVec S128x1024 8) (b : FVec Ideal S128x1024 .f32) (h) (k : S128x1024.Idx) :
    truncf .bf16 (mulf (sitofp (F := Ideal) .f32 a) b) h k = ((((a k).toInt : ℝ) : EReal) * b k : EReal) := rfl

/-- The quantised word. -/
theorem word_at : k0_pay4 w (cell3 p t) = Ideal.fptosi 8 (level (rowOf w p) t) := by
  unfold k0_pay4
  rw [add3]
  refine (round_at _ _ _).trans ?_
  unfold level
  rw [alongLanes, div_at, max_at, show k0_pay2 w (cell p t) = rowOf w p t from drop3 p t w _]

/-- The row's scale. -/
theorem scale_at : k0_pay5 w (rowU p) = rowMax (rowOf w p) * Ideal.ofBits .f32 0x3C010204#32 := by
  unfold k0_pay5
  rw [toUnit]
  refine congrArg (fun x : EReal => x * Ideal.ofBits .f32 0x3C010204#32) ?_
  rw [ofCol]
  exact max_at w p

/-- The element the result holds. -/
theorem restored_at : k0_pay1 (k0_pay4 w) (k0_pay5 w) (cell3 p t) = restored (rowOf w p) t := by
  unfold k0_pay1
  rw [add3]
  refine (scaled_at _ _ _ _).trans ?_
  unfold restored
  rw [drop3, word_at, alongLanes, toCol, ofUnit, scale_at]

/-! ## The result array -/

section
variable {F : FTy → Type} [FloatOps F] (m : (ℓ : Loc nD τ sig) → Buf (Elt F) ℓ) (ρ : Dev nD → PrngReg) (σ : Bool) (c : Dev nD)

theorem chunk_apply (k : Fin 16) (x : S1x128x1024.Idx) :
    chunk m c k x = m ((c : Thread nD τ).loc main_arg0) ((rX k).emb x) := rfl

/-- The result array ends holding what the body staged: its one block is the whole array. -/
theorem finalA_result : finalA m ρ σ c (1 : Fin 2) = outAt m σ c := by
  have h : (win0_1.blk (0 : Fin 1)).view.read (Elt F) (finalA m ρ σ c (1 : Fin 2)) = outAt m σ c := by
    unfold finalA
    rw [show cfg0.N = ((0 : Fin 1) : Fin cfg0.N).val + 1 from rfl, (dats m ρ σ 0 c).arrAt_succ (1 : Fin 2) (0 : Fin 1), if_pos (show (cfg0.win (1 : Fin 2)).flush (0 : Fin 1) = true from flush0_1 t0_0)]
    exact View.read_write_univ _ _
  have hz : (fun a => (win0_1.index (0 : Fin 1)) a * main_v1.ty.shape.size a) = fun _ => 0 :=
    funext fun a => by fin_cases a <;> decide
  exact (Memref.read_access_unit_zero (Elt F) main_v1 hz (fun a => by fin_cases a <;> decide) _).symm.trans h

end

/-- Lane `t` of the row an element lies in. -/
def lane (i : S1x2048x1024.Idx) (t : Fin 1024) : S1x2048x1024.Idx := fun a => match a with
  | ⟨0, _⟩ => i 0
  | ⟨1, _⟩ => i 1
  | ⟨2, _⟩ => t

/-- The row of its chunk an element lies in. -/
def subrow (i : S1x2048x1024.Idx) : Fin 128 := ⟨(i 1).val % 128, Nat.mod_lt _ (by decide)⟩

theorem inChunk_lane (i : S1x2048x1024.Idx) (t : Fin 1024) : inChunk (lane i t) = cell3 (subrow i) t := by
  funext a
  match a with
  | ⟨0, _⟩ => exact Fin.ext (Nat.lt_one_iff.mp (i 0).isLt)
  | ⟨1, _⟩ => rfl
  | ⟨2, _⟩ => rfl

theorem lane_self (i : S1x2048x1024.Idx) : lane i (i 2) = i := by
  funext a
  match a with
  | ⟨0, _⟩ => rfl
  | ⟨1, _⟩ => rfl
  | ⟨2, _⟩ => rfl

theorem emb_lane (i : S1x2048x1024.Idx) (t : Fin 1024) : (rX (chunkOf i)).emb (cell3 (subrow i) t) = lane i t := by
  rw [← inChunk_lane]; exact emb_inChunk (lane i t)

/-- Each result element of device `c` is its row of the block of `dst σ c`, quantised and restored. -/
theorem outAt_apply (m : (ℓ : Loc nD τ sig) → Buf (Elt Ideal) ℓ) (σ : Bool) (c : Dev nD) (i : S1x2048x1024.Idx) :
    outAt m σ c i = restored (fun t => m (((dst σ c : Dev nD) : Thread nD τ).loc main_arg0) (lane i t)) (i 2) := by
  have e : inChunk i = cell3 (subrow i) (i 2) := (congrArg inChunk (lane_self i)).symm.trans (inChunk_lane i (i 2))
  have h := restored_at (chunk m (dst σ c) (chunkOf i)) (subrow i) (i 2)
  rw [← e] at h
  refine Eq.trans h (congrArg (fun v => restored v (i 2)) (funext fun t => ?_))
  unfold rowOf
  rw [chunk_apply, emb_lane]

end Cert.KernelIdeal.Pf
-- ==== Proof.RefValue.lean ====
/-
# What the reference computes, element by element

Its result at row `r` of block `y` is row `r` of the block that the sorted positions of the table name, quantised and
restored; for a table that swaps or keeps the two blocks that is the block the table names.
-/
module

public import proofs.«01_k».proof.Proof.Quant
public import proofs.«01_k».proof.Proof.Gen.ReferenceIdeal
public import Idealize.ShloMosaic.Lib.Pipeline.Value

@[expose] public section

noncomputable section

namespace Cert.ReferenceIdeal.Pf

open Cert.ReferenceIdeal Cert.ReferenceIdeal.Gen
open Idealize.ShloMosaic
open Cert.KernelIdeal.Pf (rowMax level restored clipped_eq)

/-! ## Indices -/

def elem (y : Fin 2) (r : Fin 2048) (t : Fin 1024) : S2x2048x1024.Idx := fun a => match a with
  | ⟨0, _⟩ => y
  | ⟨1, _⟩ => r
  | ⟨2, _⟩ => t
def rowIx (y : Fin 2) (r : Fin 2048) : S2x2048.Idx := fun a => match a with
  | ⟨0, _⟩ => y
  | ⟨1, _⟩ => r
def rowIx1 (y : Fin 2) (r : Fin 2048) : S2x2048x1.Idx := fun a => match a with
  | ⟨0, _⟩ => y
  | ⟨1, _⟩ => r
  | ⟨2, _⟩ => (0 : Fin 1)
def startIx (y : Fin 2) : S2x1.Idx := fun a => match a with
  | ⟨0, _⟩ => y
  | ⟨1, _⟩ => (0 : Fin 1)

theorem elem_self (i : S2x2048x1024.Idx) : elem (i 0) (i 1) (i 2) = i := by
  funext a
  match a with
  | ⟨0, _⟩ => rfl
  | ⟨1, _⟩ => rfl
  | ⟨2, _⟩ => rfl

/-! ## The quantiser -/

variable (x : FVec Ideal S2x2048x1024 .f32)

/-- A row. -/
def rowOf (y : Fin 2) (r : Fin 2048) : Fin 1024 → EReal := fun k => x (elem y r k)

/-- The floored maximum of each row. -/
def amax : FVec Ideal S2x2048x1 .f32 :=
  maximumf (broadcastInDim S2x2048x1 ![0, 1] bcast_S2x2048_S2x2048x1_0_1 (Host.reduce FloatOps.maximumf (Host.absf x) (constant S_ .f32 0xFF800000#32) reducesTo_S2x2048x1024_S2x2048_d2 h_S_)) (broadcastInDim S2x2048x1 ![] bcast_S_S2x2048x1 (constant S_ .f32 0x0DA24260#32))

/-- Every element, scaled and rounded. -/
def rounded : FVec Ideal S2x2048x1024 .f32 :=
  Host.roundeven (mulf x (broadcastInDim S2x2048x1024 ![0, 1, 2] bcast_S2x2048x1_S2x2048x1024_0_1_2 (Host.divf (broadcastInDim S2x2048x1 ![] bcast_S_S2x2048x1 (constant S_ .f32 0x42FE0000#32)) (amax x))))

/-- Clipped and narrowed to eight bits, and widened again. -/
def words : IVec S2x2048x1024 32 :=
  extsi 32 (trunci 8 (fptosi 32 (minimumf (broadcastInDim S2x2048x1024 ![] bcast_S_S2x2048x1024 (id (constant (F := Ideal) S_ .f32 0x42FE0000#32))) (maximumf (broadcastInDim S2x2048x1024 ![] bcast_S_S2x2048x1024 (id (constant (F := Ideal) S_ .f32 0xC2FE0000#32))) (rounded x)))) natLt_8_32) natLt_8_32

/-- Restored. -/
def deq : FVec Ideal S2x2048x1024 .f32 :=
  mulf (sitofp .f32 (words x)) (broadcastInDim S2x2048x1024 ![0, 1, 2] bcast_S2x2048x1_S2x2048x1024_0_1_2 (mulf (amax x) (broadcastInDim S2x2048x1 ![] bcast_S_S2x2048x1 (constant S_ .f32 0x3C010204#32))))

variable (y : Fin 2) (r : Fin 2048) (t : Fin 1024)

theorem reduces_rows : S2x2048x1024.Reduces [2] S2x2048 := by decide

theorem lift_elem (k : Fin 1024) : reduces_rows.lift (rowIx y r) k = elem y r k := by
  funext a
  match a with
  | ⟨0, _⟩ => rfl
  | ⟨1, _⟩ => rfl
  | ⟨2, _⟩ => rfl

theorem fold_at (z : FVec Ideal S2x2048x1024 .f32) :
    Host.reduce FloatOps.maximumf z (constant S_ .f32 0xFF800000#32) reducesTo_S2x2048x1024_S2x2048_d2 h_S_ (rowIx y r)
      = (Finset.univ : Finset (Fin 1024)).fold max (Ideal.ofBits .f32 0xFF800000#32) (fun k => z (elem y r k)) :=
  (Host.reduce_eq_fold_single _ _ _ _ reduces_rows _ (rowIx y r)).trans
    (Finset.fold_congr fun k _ => congrArg z (lift_elem y r k))

theorem abs_at (k : S2x2048x1024.Idx) : Host.absf x k = (max (x k) (-(x k) : EReal) : EReal) := rfl

theorem toCol {α : Type} (v : S2x2048.Idx → α) (h) : broadcastInDim S2x2048x1 ![0, 1] h v (rowIx1 y r) = v (rowIx y r) :=
  broadcastInDim_apply _ h v _ _ (by
    intro a
    match a with
    | ⟨0, _⟩ => rfl
    | ⟨1, _⟩ => rfl)

theorem max_at (b : BitVec 32) (h) (a : FVec Ideal S2x2048x1 .f32) (k : S2x2048x1.Idx) :
    maximumf a (broadcastInDim S2x2048x1 ![] h (constant S_ .f32 b)) k = (max (a k) (Ideal.ofBits .f32 b) : EReal) := rfl

theorem amax_at : amax x (rowIx1 y r) = rowMax (rowOf x y r) := by
  unfold amax
  rw [max_at, toCol, fold_at]
  unfold rowMax
  rw [Finset.fold_congr fun k _ => abs_at x (elem y r k)]
  rfl

theorem alongLanes {α : Type} (v : S2x2048x1.Idx → α) (h) : broadcastInDim S2x2048x1024 ![0, 1, 2] h v (elem y r t) = v (rowIx1 y r) :=
  broadcastInDim_apply _ h v _ _ (by
    intro a
    match a with
    | ⟨0, _⟩ => rfl
    | ⟨1, _⟩ => rfl
    | ⟨2, _⟩ => rfl)

theorem div_at (b : BitVec 32) (h) (a : FVec Ideal S2x2048x1 .f32) (k : S2x2048x1.Idx) :
    Host.divf (broadcastInDim S2x2048x1 ![] h (constant S_ .f32 b)) a k = Ideal.div (Ideal.ofBits .f32 b) (a k) := rfl

theorem mul_at (b : BitVec 32) (h) (a : FVec Ideal S2x2048x1 .f32) (k : S2x2048x1.Idx) :
    mulf a (broadcastInDim S2x2048x1 ![] h (constant S_ .f32 b)) k = (a k * Ideal.ofBits .f32 b : EReal) := rfl

theorem round_at (a b : FVec Ideal S2x2048x1024 .f32) (k : S2x2048x1024.Idx) :
    Host.roundeven (mulf a b) k = Ideal.liftRound Ideal.roundHalfEven ((a k : EReal) * b k) := rfl

theorem rounded_at : rounded x (elem y r t) = level (rowOf x y r) t := by
  unfold rounded
  refine (round_at _ _ _).trans ?_
  unfold level
  rw [alongLanes, div_at, amax_at]
  rfl

theorem clip_at (lo hi : BitVec 32) (h h' h₁ h₂) (a : FVec Ideal S2x2048x1024 .f32) (k : S2x2048x1024.Idx) :
    extsi 32 (trunci 8 (fptosi 32 (minimumf (broadcastInDim S2x2048x1024 ![] h (id (constant (F := Ideal) S_ .f32 hi)))
      (maximumf (broadcastInDim S2x2048x1024 ![] h' (id (constant (F := Ideal) S_ .f32 lo))) a))) h₁) h₂ k
    = ((Ideal.fptosi 32 (min (Ideal.ofBits .f32 hi) (max (Ideal.ofBits .f32 lo) (a k)))).setWidth 8).signExtend 32 := rfl

theorem words_at : (words x (elem y r t)).toInt = (Ideal.fptosi 8 (level (rowOf x y r) t)).toInt := by
  unfold words
  rw [clip_at, rounded_at]
  exact clipped_eq _ _

theorem scaled_at (a : IVec S2x2048x1024 32) (b : FVec Ideal S2x2048x1024 .f32) (k : S2x2048x1024.Idx) :
    mulf (sitofp (F := Ideal) .f32 a) b k = ((((a k).toInt : ℝ) : EReal) * b k : EReal) := rfl

theorem deq_at : deq x (elem y r t) = restored (rowOf x y r) t := by
  unfold deq
  refine (scaled_at _ _ _).trans ?_
  unfold restored
  rw [words_at, alongLanes, mul_at, amax_at]

/-! ## The permutation -/

/-- The table that swaps the two blocks, or keeps them. -/
def table (σ : Bool) : IVec S2 32 := fun i => BitVec.ofNat 32 (if σ then 1 - (i 0).val else (i 0).val)

/-- The positions in the table, in the order of its entries, a negative one counted from the end. -/
def starts (pi : IVec S2 32) : IVec S2x1 32 :=
  broadcastInDim S2x1 ![0] bcast_S2_S2x1_0 (select (cmpi .slt ((Host.sort2 S2 0 comparator_i32_i32_d0 pi (iotaInDim S2 32 0)).2) (broadcastInDim S2 ![] bcast_S_S2 (constantI S_ 32 0#32))) (addi ((Host.sort2 S2 0 comparator_i32_i32_d0 pi (iotaInDim S2 32 0)).2) (broadcastInDim S2 ![] bcast_S_S2 (constantI S_ 32 2#32))) ((Host.sort2 S2 0 comparator_i32_i32_d0 pi (iotaInDim S2 32 0)).2))

/-- Block `y` after the permutation. -/
def perm (σ : Bool) (y : Fin 2) : Fin 2 := if σ then ⟨1 - y.val, by omega⟩ else y

theorem starts_at (σ : Bool) (y : Fin 2) : min (starts (table σ) (startIx y)).toInt.toNat 1 = (perm σ y).val := by
  revert σ y; decide

/-- The dimension numbers by which the reference takes whole blocks. -/
abbrev byBlock := gather_S2x2048x1024_S2x1_S2x2048x1024_12_0_n_n_0_1_120481024

theorem siIdx_at (k) : byBlock.siIdx (elem y r t) k = startIx y := by
  funext b
  match b with
  | ⟨0, _⟩ => rfl
  | ⟨1, _⟩ => exact Fin.ext (Nat.lt_one_iff.mp k.isLt)

/-- A taken block starts where its word says, on the block axis alone. -/
theorem start_block (idx : IVec S2x1 32) : byBlock.start (elem y r t) idx (0 : Fin 3) = min (idx (startIx y)).toInt.toNat 1 := by
  unfold GatherDims.start
  refine (dif_pos (show (0 : Fin 3) ∈ byBlock.startIndexMap from List.mem_singleton.mpr rfl)).trans ?_
  exact congrArg (fun k => min (idx k).toInt.toNat 1) (siIdx_at y r t _)

theorem start_within (idx : IVec S2x1 32) (a : Fin 3) (h : a ≠ 0) : byBlock.start (elem y r t) idx a = 0 := by
  unfold GatherDims.start
  exact dif_neg (show a ∉ byBlock.startIndexMap from fun h' => h (List.mem_singleton.mp h'))

/-- The rows of `x` taken in the order of `starts`. -/
theorem take_at (idx : IVec S2x1 32) :
    Host.gather byBlock x idx (elem y r t) = x (elem ⟨min (idx (startIx y)).toInt.toNat 1, by omega⟩ r t) := by
  unfold Host.gather
  refine congrArg x (funext fun a => Fin.ext ?_)
  show byBlock.start _ idx a + byBlock.batchCoord _ a + byBlock.offCoord _ a = _
  rw [GatherDims.batchCoord_eq_zero _ _ _ List.not_mem_nil, Nat.add_zero]
  match a with
  | ⟨0, _⟩ =>
    rw [GatherDims.offCoord_eq_zero _ _ _ (fun h => ((GatherDims.mem_sKept _ _).mp h).1 (List.mem_singleton.mpr rfl)), Nat.add_zero]
    exact start_block y r t idx
  | ⟨1, _⟩ => exact (congrArg (· + _) (start_within y r t idx 1 (by decide))).trans (Nat.zero_add _)
  | ⟨2, _⟩ => exact (congrArg (· + _) (start_within y r t idx 2 (by decide))).trans (Nat.zero_add _)

/-- The reference's result. -/
def result (pi : IVec S2 32) : FVec Ideal S2x2048x1024 .bf16 :=
  truncf .bf16 (Host.gather byBlock (deq x) (starts pi)) bitsLt_bf16_f32

theorem result_at (σ : Bool) : result x (table σ) (elem y r t) = restored (rowOf x (perm σ y) r) t := by
  unfold result
  refine (take_at (deq x) y r t _).trans ?_
  rw [← deq_at]
  exact congrArg (fun n => deq x (elem n r t)) (Fin.ext (starts_at σ y))

end Cert.ReferenceIdeal.Pf
-- ==== Proof.Value.lean ====
/-
# The value claims

The kernel's result on every device is that device's block of the reference's result: row by row, both quantise and restore
the same row of the whole array.
-/
module

public import proofs.«01_k».proof.Proof.Frames
public import proofs.«01_k».proof.Proof.KernelValue
public import proofs.«01_k».proof.Proof.RefValue
public import Idealize.ShloMosaic.Lib.Layout

@[expose] public section

noncomputable section

namespace Cert.KernelIdeal.Pf

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.ReferenceIdeal.Pf (elem perm table result result_at)

/-- The block of the whole array device `c` holds. -/
def blockOf (c : Dev nD) : Fin 2 := ⟨c.val / 2 % 2, Nat.mod_lt _ (by decide)⟩

theorem blockOf_dst (σ : Bool) (c : Dev nD) : blockOf (dst σ c) = perm σ (blockOf c) := by
  revert σ c; decide

theorem meshLin_at (c : Dev nD) : Layout.meshLin [2, 2, 2] c.val [1] = (blockOf c).val := by
  revert c; decide

/-- An element of device `c`'s block in the whole array. -/
theorem block_idx (h) (c : Dev nD) (i : S1x2048x1024.Idx) :
    Layout.TilesN.idx (S := ⟨3, ![1, 2048, 1024]⟩) (T := ⟨3, ![2, 2048, 1024]⟩) h (Layout.meshBlock [2, 2, 2] ![[1], [], []] c) i = elem (blockOf c) (i 1) (i 2) := by
  funext a
  refine Fin.ext ?_
  rw [Layout.TilesN.idx_val]
  match a with
  | ⟨0, _⟩ =>
    have h0 : (i 0).val = 0 := Nat.lt_one_iff.mp (i 0).isLt
    show Layout.meshLin [2, 2, 2] c.val [1] * 1 + (i 0).val = (blockOf c).val
    rw [meshLin_at, h0, Nat.mul_one, Nat.add_zero]
  | ⟨1, _⟩ =>
    show 0 * 2048 + (i 1).val = (i 1).val
    omega
  | ⟨2, _⟩ =>
    show 0 * 1024 + (i 2).val = (i 2).val
    omega

/-- The kernel's result on device `c` is its block of the reference's, when each device holds its block of `x`. -/
theorem outAt_block (m : (ℓ : Loc nD τ sig) → Buf (Elt Ideal) ℓ) (σ : Bool) (x : FVec Ideal Cert.ReferenceIdeal.S2x2048x1024 .f32)
    (hx : ∀ c : Dev nD, m ((c.tc : Thread nD τ).loc main_arg0)
      = Layout.blockN ⟨3, ![1, 2048, 1024]⟩ ⟨3, ![2, 2048, 1024]⟩ (Layout.meshBlock [2, 2, 2] ![[1], [], []] c) x) (c : Dev nD) :
    outAt m σ c = Layout.blockN ⟨3, ![1, 2048, 1024]⟩ ⟨3, ![2, 2048, 1024]⟩ (Layout.meshBlock [2, 2, 2] ![[1], [], []] c) (result x (table σ)) := by
  funext i
  refine (outAt_apply m σ c i).trans (Eq.trans ?_ ((congrArg (result x (table σ)) (block_idx _ c i)).trans (result_at x (blockOf c) (i 1) (i 2) σ)).symm)
  refine congrArg (fun v => restored v (i 2)) (funext fun t => ?_)
  refine (congrFun (hx (dst σ c)) (lane i t)).trans (congrArg x ((block_idx _ (dst σ c) (lane i t)).trans ?_))
  rw [blockOf_dst]
  rfl

/-- Both programs' runs, for a table that is `[1, 0]` or `[0, 1]` on every device. -/
theorem value (σ : Bool) (m : (ℓ : Loc nD τ sig) → Buf (Elt Ideal) ℓ) (g : Dev nD → PrngReg)
    (m' : (ℓ : Loc Cert.ReferenceIdeal.nD Cert.ReferenceIdeal.τ Cert.ReferenceIdeal.sig) → Buf (Elt Ideal) ℓ) (g' : Dev Cert.ReferenceIdeal.nD → PrngReg)
    (h : PreOK m σ)
    (hx : ∀ c : Dev nD, m ((c.tc : Thread nD τ).loc main_arg0) = Layout.blockN ⟨3, ![1, 2048, 1024]⟩ ⟨3, ![2, 2048, 1024]⟩ (Layout.meshBlock [2, 2, 2] ![[1], [], []] c)
        (m' (((0 : Dev Cert.ReferenceIdeal.nD).tc : Thread Cert.ReferenceIdeal.nD Cert.ReferenceIdeal.τ).loc Cert.ReferenceIdeal.main_arg0))
      ∧ m ((c.tc : Thread nD τ).loc main_arg1) = m' (((0 : Dev Cert.ReferenceIdeal.nD).tc : Thread Cert.ReferenceIdeal.nD Cert.ReferenceIdeal.τ).loc Cert.ReferenceIdeal.main_arg1)) :
    ∃ (v0 : Buf (Elt Ideal) (((0 : Dev Cert.ReferenceIdeal.nD).tc : Thread Cert.ReferenceIdeal.nD Cert.ReferenceIdeal.τ).loc Cert.ReferenceIdeal.main_v27)),
      θ_run (defs (F := Ideal)) (onTc (τ := τ) (main (F := Ideal))) ⟨m, fun _ => 0, g⟩ (fun r => ∀ c : Dev nD,
          r.2.mem ((c.tc : Thread nD τ).loc main_v1) = Layout.blockN ⟨3, ![1, 2048, 1024]⟩ ⟨3, ![2, 2048, 1024]⟩ (Layout.meshBlock [2, 2, 2] ![[1], [], []] c) v0
          ∧ r.2.mem ((c.tc : Thread nD τ).loc main_arg0) = m ((c.tc : Thread nD τ).loc main_arg0)
          ∧ r.2.mem ((c.tc : Thread nD τ).loc main_arg1) = m ((c.tc : Thread nD τ).loc main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v27) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)) := by
  have hpi : m' (((0 : Dev Cert.ReferenceIdeal.nD).tc : Thread Cert.ReferenceIdeal.nD Cert.ReferenceIdeal.τ).loc Cert.ReferenceIdeal.main_arg1) = table σ :=
    funext fun i => (congrFun (hx 0).2 i).symm.trans (h 0 i)
  refine ⟨result (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg1)), ?_, ?_⟩
  · rw [hpi]
    refine (θ_run defs _ _).mono (fun r hr c => ⟨?_, (hr.1 c).2, ((hr.1 c).1 (0 : Fin 2)).trans (finalA_table m g σ c)⟩) (run_main m g σ h)
    exact ((hr.1 c).1 (1 : Fin 2)).trans ((finalA_result m g σ c).trans (outAt_block m σ _ (fun c => (hx c).1) c))
  · exact (θ_run Cert.ReferenceIdeal.defs _ _).mono (fun r hr => hr 0) (Cert.ReferenceIdeal.Value.run m' g')

theorem value_swapped : Cert.algebraic_KernelIdeal_ReferenceIdeal := fun m g m' g' hm hx =>
  value true m g m' g' (fun c i => table_swapped (hm c) i) hx

theorem value_kept : Cert.algebraic_KernelIdeal_ReferenceIdeal_pre_kept_Kernel := fun m g m' g' hm hx =>
  value false m g m' g' (fun c i => table_kept (hm c) i) hx

end Cert.KernelIdeal.Pf
-- ==== Proof.lean ====
/-
# The certificate

The ten claims put together. The kernel, over float words and over the extended reals, and the reference each end without
fault, with their arguments unchanged and every semaphore at zero; and over the extended reals each device's result is that
device's block of the reference's result. Each claim about the kernel is stated twice: for the table that swaps the two
blocks, and for the one that keeps them.
-/
module

public import proofs.«01_k».proof.Defs
public import proofs.«01_k».proof.Proof.Gen.Kernel
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Gen.Pre_swapped_Kernel
public import proofs.«01_k».proof.Proof.Gen.Pre_kept_Kernel
public import proofs.«01_k».proof.Proof.Gen.Pre_swapped_ReferenceIdeal
public import proofs.«01_k».proof.Proof.Gen.Pre_kept_ReferenceIdeal
public import proofs.«01_k».proof.Proof.Value
public import Idealize.ShloMosaic.Adequacy
public import Idealize.ShloMosaic.Init

@[expose] public section

noncomputable section

namespace Cert.Proof

open Idealize.ShloMosaic Idealize.SL.Sem Cert.Kernel

/-- Every claim of the certificate holds. -/
theorem claim : Cert.Claim := ⟨Cert.Kernel.Gen.facts, Cert.KernelIdeal.Gen.facts, Cert.ReferenceIdeal.Gen.facts, Cert.Pre_swapped_Kernel.Gen.facts, Cert.Pre_kept_Kernel.Gen.facts, Cert.Pre_swapped_ReferenceIdeal.Gen.facts, Cert.Pre_kept_ReferenceIdeal.Gen.facts, by
  open Cert.KernelIdeal.Pf in
  exact ⟨frame_swapped, frame_kept, frame_ideal_swapped, frame_ideal_kept, fun m g _ => frame_ref m g, fun m g _ => frame_ref m g,
    fun m g _ => frame_ref m g, trivial, value_swapped, value_kept⟩⟩

end Cert.Proof

end
